-- ==== Defs.lean ====
def Pre_Kernel (m : (ℓ : Loc Cert.Kernel.nD Cert.Kernel.τ Cert.Kernel.sig) → Buf (Elt Bits) ℓ) : Prop :=
  True

def Pre_Kernel_generic [hPre_generic : Cert.Pre_generic.Facts] (m : (ℓ : Loc Cert.Kernel.nD Cert.Kernel.τ Cert.Kernel.sig) → Buf (Elt Bits) ℓ) : Prop :=
  ∀ c : Dev Cert.Kernel.nD,
    (Cert.Pre_generic.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_generic : Cert.Pre_generic.Facts] (m : (ℓ : Loc Cert.KernelIdeal.nD Cert.KernelIdeal.τ Cert.KernelIdeal.sig) → Buf (Elt Ideal) ℓ) : Prop :=
  ∀ c : Dev Cert.KernelIdeal.nD,
    (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_generic [hPre_generic : Cert.Pre_generic.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_generic [hKernel : Cert.Kernel.Facts] [hPre_generic : Cert.Pre_generic.Facts] : Prop :=
  ∀ (m : (ℓ : Loc Cert.Kernel.nD Cert.Kernel.τ Cert.Kernel.sig) → Buf (Elt Bits) ℓ) (g : Dev Cert.Kernel.nD → PrngReg), Pre_Kernel_generic m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_generic : Cert.Pre_generic.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_generic [hReferenceIdeal : Cert.ReferenceIdeal.Facts] [hPre_generic : Cert.Pre_generic.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_generic m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "penalty" .f32 0x7149F2CA#32 ⊤

def algebraic_KernelIdeal_ReferenceIdeal [hKernelIdeal : Cert.KernelIdeal.Facts] [hReferenceIdeal : Cert.ReferenceIdeal.Facts] [hPre_generic : Cert.Pre_generic.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v7_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v426) = v0 c
          ∧ r.2.mem ((c.tc : Thread Cert.ReferenceIdeal.nD Cert.ReferenceIdeal.τ).loc Cert.ReferenceIdeal.main_v423) = v1 c
          ∧ r.2.mem ((c.tc : Thread Cert.ReferenceIdeal.nD Cert.ReferenceIdeal.τ).loc Cert.ReferenceIdeal.main_v411) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_generic : Cert.Pre_generic.Facts),
    quiescent_Kernel (hKernel := hKernel)
    ∧ quiescent_Kernel_pre_generic (hKernel := hKernel) (hPre_generic := hPre_generic)
    ∧ quiescent_KernelIdeal (hKernelIdeal := hKernelIdeal) (hPre_generic := hPre_generic)
    ∧ quiescent_ReferenceIdeal (hReferenceIdeal := hReferenceIdeal)
    ∧ quiescent_ReferenceIdeal_pre_generic (hReferenceIdeal := hReferenceIdeal) (hPre_generic := hPre_generic)
    ∧ preserves_Kernel_KernelIdeal
    ∧ algebraic_KernelIdeal_ReferenceIdeal (hKernelIdeal := hKernelIdeal) (hReferenceIdeal := hReferenceIdeal) (hPre_generic := hPre_generic)
-- ==== Pre_generic.lean ====
abbrev S16x64x32x32 : Shape := ⟨4, ![16, 64, 32, 32]⟩
abbrev S64x512 : Shape := ⟨2, ![64, 512]⟩
abbrev S_ : Shape := ⟨0, ![]⟩
abbrev S512 : Shape := ⟨1, ![512]⟩
abbrev S1x512 : Shape := ⟨2, ![1, 512]⟩
abbrev S512x64 : Shape := ⟨2, ![512, 64]⟩
abbrev S512x512 : Shape := ⟨2, ![512, 512]⟩
abbrev S16x32x32x64 : Shape := ⟨4, ![16, 32, 32, 64]⟩
abbrev S64x16384 : Shape := ⟨2, ![64, 16384]⟩
abbrev S512x16384 : Shape := ⟨2, ![512, 16384]⟩
abbrev S16384x512 : Shape := ⟨2, ![16384, 512]⟩
abbrev S16384 : Shape := ⟨1, ![16384]⟩
abbrev S16384x1 : Shape := ⟨2, ![16384, 1]⟩
abbrev S16384x1x1 : Shape := ⟨3, ![16384, 1, 1]⟩

class Facts : Prop where
  reducesTo_S64x512_S512_d0 : S64x512.ReducesTo [0] S512
  h_S_ : 0 < S_.numel
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  transposes_S64x512_S512x64_1_0 : S64x512.Transposes [1, 0] S512x64
  transposes_S16x64x32x32_S16x32x32x64_0_2_3_1 : S16x64x32x32.Transposes [0, 2, 3, 1] S16x32x32x64
  shapeCasts_S16x32x32x64_S64x16384 : S16x32x32x64.ShapeCasts S64x16384
  transposes_S512x16384_S16384x512_1_0 : S512x16384.Transposes [1, 0] S16384x512
  bcast_S_S16384x512 : S_.BroadcastsInDim S16384x512 (![] : Fin 0 → Fin S16384x512.rank)
  reducesTo_S16384x512_S16384_d1 : S16384x512.ReducesTo [1] S16384
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  bcast_S_S16384 : S_.BroadcastsInDim S16384 (![] : Fin 0 → Fin S16384.rank)
  bcast_S_S16384x1 : S_.BroadcastsInDim S16384x1 (![] : Fin 0 → Fin S16384x1.rank)
  shapeCasts_S16384x1_S16384x1x1 : S16384x1.ShapeCasts S16384x1x1
  shapeCasts_S16384x1_S16384 : S16384x1.ShapeCasts S16384
  bcast_S_S16x64x32x32 : S_.BroadcastsInDim S16x64x32x32 (![] : Fin 0 → Fin S16x64x32x32.rank)
  reducesTo_S16x64x32x32_S_d0_1_2_3 : S16x64x32x32.ReducesTo [0, 1, 2, 3] S_
  bcast_S_S512x512 : S_.BroadcastsInDim S512x512 (![] : Fin 0 → Fin S512x512.rank)
  reducesTo_S512x512_S_d0_1 : S512x512.ReducesTo [0, 1] S_
  natLt_1_32 : 1 < 32
  reducesTo_S16384_S_d0 : S16384.ReducesTo [0] S_
  dot_S512x64_S64x512_S512x512_1_0_0_1_n_n_wf : DotDims.WF S512x64 S64x512 S512x512 [1] [0] [0] [1] [] []
  dot_S512x64_S64x16384_S512x16384_1_0_0_1_n_n_wf : DotDims.WF S512x64 S64x16384 S512x16384 [1] [0] [0] [1] [] []
  gather_S512x512_S16384x1_S16384x512_1_0_n_n_0_1_1512_wf : GatherDims.WF S512x512 S16384x1 S16384x512 [1] [0] [] [0] [] 1 ![1, 512]
  gather_S16384x512_S16384x1x1_S16384x1_n_1_0_0_1_2_11_wf : GatherDims.WF S16384x512 S16384x1x1 S16384x1 [] [1] [0] [1] [0] 2 ![1, 1]

variable [Facts]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x64_S64x16384_S512x16384_1_0_0_1_n_n : DotDims S512x64 S64x16384 S512x16384 where
  lhsContracting := [1]
  rhsContracting := [0]
  lhsNonContracting := [0]
  rhsNonContracting := [1]
  lhsBatch := []
  rhsBatch := []
  wf := dot_S512x64_S64x16384_S512x16384_1_0_0_1_n_n_wf
def gather_S512x512_S16384x1_S16384x512_1_0_n_n_0_1_1512 : GatherDims S512x512 S16384x1 S16384x512 where
  offsetDims := [1]
  collapsedSliceDims := [0]
  operandBatchingDims := []
  startIndicesBatchingDims := []
  startIndexMap := [0]
  indexVectorDim := 1
  sliceSizes := ![1, 512]
  wf := gather_S512x512_S16384x1_S16384x512_1_0_n_n_0_1_1512_wf
def gather_S16384x512_S16384x1x1_S16384x1_n_1_0_0_1_2_11 : GatherDims S16384x512 S16384x1x1 S16384x1 where
  offsetDims := []
  collapsedSliceDims := [1]
  operandBatchingDims := [0]
  startIndicesBatchingDims := [0]
  startIndexMap := [1]
  indexVectorDim := 2
  sliceSizes := ![1, 1]
  wf := gather_S16384x512_S16384x1x1_S16384x1_n_1_0_0_1_2_11_wf
def fn_norm {F : FTy → Type} [FloatOps F] (arg0 : FVec F S64x512 .f32) : FVec F S512 .f32 :=
  let v0 : FVec F S64x512 .f32 := mulf arg0 arg0
  let cst : FVec F S_ .f32 := constant S_ .f32 0x00000000#32
  let v1 : FVec F S512 .f32 := (fun x v => Host.reduceAdd x v reducesTo_S64x512_S512_d0 h_S_) v0 cst
  let v2 : FVec F S512 .f32 := Host.sqrt v1
  v2

def fn_take {F : FTy → Type} [FloatOps F] (arg0 : FVec F S512x512 .f32) (arg1 : IVec S16384 32) : FVec F S16384x512 .f32 :=
  let v0 : IVec S16384x1 32 := broadcastInDim S16384x1 ![0] bcast_S16384_S16384x1_0 arg1
  let v1 : FVec F S16384x512 .f32 := (fun x i => Host.gather gather_S512x512_S16384x1_S16384x512_1_0_n_n_0_1_1512 x i) arg0 v0
  v1

def fn_take_along_axis {F : FTy → Type} [FloatOps F] (arg0 : FVec F S16384x512 .f32) (arg1 : IVec S16384x1 32) : FVec F S16384x1 .f32 :=
  let c : IVec S_ 32 := constantI S_ 32 0#32
  let v0 : IVec S16384x1 32 := broadcastInDim S16384x1 ![] bcast_S_S16384x1 c
  let v1 : IVec S16384x1 1 := cmpi .slt arg1 v0
  let c_0 : IVec S_ 32 := constantI S_ 32 512#32
  let v2 : IVec S16384x1 32 := broadcastInDim S16384x1 ![] bcast_S_S16384x1 c_0
  let v3 : IVec S16384x1 32 := addi arg1 v2
  let v4 : IVec S16384x1 32 := select v1 v3 arg1
  let v5 : IVec S16384x1x1 32 := shapeCast S16384x1x1 v4 shapeCasts_S16384x1_S16384x1x1
  let v6 : FVec F S16384x1 .f32 := (fun x i => Host.gather gather_S16384x512_S16384x1x1_S16384x1_n_1_0_0_1_2_11 x i) arg0 v5
  v6

def fn_part21 {F : FTy → Type} [FloatOps F] (main_v434 : IVec S_ 1) (main_v440 : IVec S16384 32) (main_v441 : IVec S16384 32) : IVec S_ 1 :=
  let main_v442 : IVec S16384 1 := cmpi .eq main_v440 main_v441
  let main_c_60 : IVec S_ 1 := constantI S_ 1 1#1
  let main_v443 : IVec S_ 1 := (fun x v => Host.reduce IntOp.andi x v reducesTo_S16384_S_d0 h_S_) main_v442 main_c_60
  let main_v444 : IVec S_ 1 := andi main_v434 main_v443
  main_v444

def fn_part20 {F : FTy → Type} [FloatOps F] (main_v159 : FVec F S16384x512 .f32) (main_v256 : FVec F S16384x512 .f32) (main_v424 : IVec S_ 1) : IVec S_ 1 :=
  let main_cst_53 : FVec F S_ .f32 := constant S_ .f32 0xFF800000#32
  let main_v425 : FVec F S16384 .f32 := (fun x v => Host.reduce FloatOps.maximumf x v reducesTo_S16384x512_S16384_d1 h_S_) main_v159 main_cst_53
  let main_v426 : FVec F S16384x1 .f32 := broadcastInDim S16384x1 ![0] bcast_S16384_S16384x1_0 main_v425
  let main_v427 : FVec F S16384x512 .f32 := broadcastInDim S16384x512 ![0, 1] bcast_S16384x1_S16384x512_0_1 main_v426
  let main_v428 : IVec S16384x512 1 := cmpf .oeq main_v159 main_v427
  let main_v429 : IVec S16384x512 32 := (extui 32 · natLt_1_32) main_v428
  let main_c_54 : IVec S_ 32 := constantI S_ 32 0#32
  let main_v430 : IVec S16384 32 := (fun x v => Host.reduce IntOp.addi x v reducesTo_S16384x512_S16384_d1 h_S_) main_v429 main_c_54
  let main_c_55 : IVec S_ 32 := constantI S_ 32 1#32
  let main_v431 : IVec S16384 32 := broadcastInDim S16384 ![] bcast_S_S16384 main_c_55
  let main_v432 : IVec S16384 1 := cmpi .eq main_v430 main_v431
  let main_c_56 : IVec S_ 1 := constantI S_ 1 1#1
  let main_v433 : IVec S_ 1 := (fun x v => Host.reduce IntOp.andi x v reducesTo_S16384_S_d0 h_S_) main_v432 main_c_56
  let main_v434 : IVec S_ 1 := andi main_v424 main_v433
  let main_cst_57 : FVec F S_ .f32 := constant S_ .f32 0xFF800000#32
  let main_v435 : FVec F S16384 .f32 := (fun x v => Host.reduce FloatOps.maximumf x v reducesTo_S16384x512_S16384_d1 h_S_) main_v256 main_cst_57
  let main_v436 : FVec F S16384x1 .f32 := broadcastInDim S16384x1 ![0] bcast_S16384_S16384x1_0 main_v435
  let main_v437 : FVec F S16384x512 .f32 := broadcastInDim S16384x512 ![0, 1] bcast_S16384x1_S16384x512_0_1 main_v436
  let main_v438 : IVec S16384x512 1 := cmpf .oeq main_v256 main_v437
  let main_v439 : IVec S16384x512 32 := (extui 32 · natLt_1_32) main_v438
  let main_c_58 : IVec S_ 32 := constantI S_ 32 0#32
  let main_v440 : IVec S16384 32 := (fun x v => Host.reduce IntOp.addi x v reducesTo_S16384x512_S16384_d1 h_S_) main_v439 main_c_58
  let main_c_59 : IVec S_ 32 := constantI S_ 32 1#32
  let main_v441 : IVec S16384 32 := broadcastInDim S16384 ![] bcast_S_S16384 main_c_59
  fn_part21 (F := F) main_v434 main_v440 main_v441

def fn_part19 {F : FTy → Type} [FloatOps F] (main_v43 : FVec F S16384x512 .f32) (main_v90 : FVec F S16384x512 .f32) (main_v159 : FVec F S16384x512 .f32) (main_v256 : FVec F S16384x512 .f32) (main_v404 : IVec S_ 1) (main_v407 : FVec F S16384x512 .f32) : IVec S_ 1 :=
  let main_v408 : IVec S16384x512 1 := cmpf .oeq main_v43 main_v407
  let main_v409 : IVec S16384x512 32 := (extui 32 · natLt_1_32) main_v408
  let main_c_46 : IVec S_ 32 := constantI S_ 32 0#32
  let main_v410 : IVec S16384 32 := (fun x v => Host.reduce IntOp.addi x v reducesTo_S16384x512_S16384_d1 h_S_) main_v409 main_c_46
  let main_c_47 : IVec S_ 32 := constantI S_ 32 1#32
  let main_v411 : IVec S16384 32 := broadcastInDim S16384 ![] bcast_S_S16384 main_c_47
  let main_v412 : IVec S16384 1 := cmpi .eq main_v410 main_v411
  let main_c_48 : IVec S_ 1 := constantI S_ 1 1#1
  let main_v413 : IVec S_ 1 := (fun x v => Host.reduce IntOp.andi x v reducesTo_S16384_S_d0 h_S_) main_v412 main_c_48
  let main_v414 : IVec S_ 1 := andi main_v404 main_v413
  let main_cst_49 : FVec F S_ .f32 := constant S_ .f32 0xFF800000#32
  let main_v415 : FVec F S16384 .f32 := (fun x v => Host.reduce FloatOps.maximumf x v reducesTo_S16384x512_S16384_d1 h_S_) main_v90 main_cst_49
  let main_v416 : FVec F S16384x1 .f32 := broadcastInDim S16384x1 ![0] bcast_S16384_S16384x1_0 main_v415
  let main_v417 : FVec F S16384x512 .f32 := broadcastInDim S16384x512 ![0, 1] bcast_S16384x1_S16384x512_0_1 main_v416
  let main_v418 : IVec S16384x512 1 := cmpf .oeq main_v90 main_v417
  let main_v419 : IVec S16384x512 32 := (extui 32 · natLt_1_32) main_v418
  let main_c_50 : IVec S_ 32 := constantI S_ 32 0#32
  let main_v420 : IVec S16384 32 := (fun x v => Host.reduce IntOp.addi x v reducesTo_S16384x512_S16384_d1 h_S_) main_v419 main_c_50
  let main_c_51 : IVec S_ 32 := constantI S_ 32 1#32
  let main_v421 : IVec S16384 32 := broadcastInDim S16384 ![] bcast_S_S16384 main_c_51
  let main_v422 : IVec S16384 1 := cmpi .eq main_v420 main_v421
  let main_c_52 : IVec S_ 1 := constantI S_ 1 1#1
  let main_v423 : IVec S_ 1 := (fun x v => Host.reduce IntOp.andi x v reducesTo_S16384_S_d0 h_S_) main_v422 main_c_52
  let main_v424 : IVec S_ 1 := andi main_v414 main_v423
  fn_part20 (F := F) main_v159 main_v256 main_v424

def fn_part18 {F : FTy → Type} [FloatOps F] (main_v16 : FVec F S16384x512 .f32) (main_v43 : FVec F S16384x512 .f32) (main_v90 : FVec F S16384x512 .f32) (main_v159 : FVec F S16384x512 .f32) (main_v256 : FVec F S16384x512 .f32) (main_v389 : IVec S_ 1) (main_v390 : FVec F S512x512 .f32) : IVec S_ 1 :=
  let main_cst_39 : FVec F S_ .f32 := constant S_ .f32 0x7F800000#32
  let main_v391 : FVec F S512x512 .f32 := broadcastInDim S512x512 ![] bcast_S_S512x512 main_cst_39
  let main_v392 : IVec S512x512 1 := cmpf .olt main_v390 main_v391
  let main_c_40 : IVec S_ 1 := constantI S_ 1 1#1
  let main_v393 : IVec S_ 1 := (fun x v => Host.reduce IntOp.andi x v reducesTo_S512x512_S_d0_1 h_S_) main_v392 main_c_40
  let main_v394 : IVec S_ 1 := andi main_v389 main_v393
  let main_cst_41 : FVec F S_ .f32 := constant S_ .f32 0xFF800000#32
  let main_v395 : FVec F S16384 .f32 := (fun x v => Host.reduce FloatOps.maximumf x v reducesTo_S16384x512_S16384_d1 h_S_) main_v16 main_cst_41
  let main_v396 : FVec F S16384x1 .f32 := broadcastInDim S16384x1 ![0] bcast_S16384_S16384x1_0 main_v395
  let main_v397 : FVec F S16384x512 .f32 := broadcastInDim S16384x512 ![0, 1] bcast_S16384x1_S16384x512_0_1 main_v396
  let main_v398 : IVec S16384x512 1 := cmpf .oeq main_v16 main_v397
  let main_v399 : IVec S16384x512 32 := (extui 32 · natLt_1_32) main_v398
  let main_c_42 : IVec S_ 32 := constantI S_ 32 0#32
  let main_v400 : IVec S16384 32 := (fun x v => Host.reduce IntOp.addi x v reducesTo_S16384x512_S16384_d1 h_S_) main_v399 main_c_42
  let main_c_43 : IVec S_ 32 := constantI S_ 32 1#32
  let main_v401 : IVec S16384 32 := broadcastInDim S16384 ![] bcast_S_S16384 main_c_43
  let main_v402 : IVec S16384 1 := cmpi .eq main_v400 main_v401
  let main_c_44 : IVec S_ 1 := constantI S_ 1 1#1
  let main_v403 : IVec S_ 1 := (fun x v => Host.reduce IntOp.andi x v reducesTo_S16384_S_d0 h_S_) main_v402 main_c_44
  let main_v404 : IVec S_ 1 := andi main_v394 main_v403
  let main_cst_45 : FVec F S_ .f32 := constant S_ .f32 0xFF800000#32
  let main_v405 : FVec F S16384 .f32 := (fun x v => Host.reduce FloatOps.maximumf x v reducesTo_S16384x512_S16384_d1 h_S_) main_v43 main_cst_45
  let main_v406 : FVec F S16384x1 .f32 := broadcastInDim S16384x1 ![0] bcast_S16384_S16384x1_0 main_v405
  let main_v407 : FVec F S16384x512 .f32 := broadcastInDim S16384x512 ![0, 1] bcast_S16384x1_S16384x512_0_1 main_v406
  fn_part19 (F := F) main_v43 main_v90 main_v159 main_v256 main_v404 main_v407

def fn_part17 {F : FTy → Type} [FloatOps F] (main_arg0 : FVec F S16x64x32x32 .f32) (main_v5 : FVec F S512x512 .f32) (main_v12 : FVec F S16384x512 .f32) (main_v16 : FVec F S16384x512 .f32) (main_v43 : FVec F S16384x512 .f32) (main_v67 : FVec F S16384x512 .f32) (main_v90 : FVec F S16384x512 .f32) (main_v122 : FVec F S16384x512 .f32) (main_v159 : FVec F S16384x512 .f32) (main_v201 : FVec F S16384x512 .f32) (main_v256 : FVec F S16384x512 .f32) (main_v310 : FVec F S16384x512 .f32) (main_v339 : FVec F S16384 .f32) (main_v342 : FVec F S16384 .f32) (main_v347 : FVec F S16384 .f32) (main_v354 : FVec F S16384 .f32) (main_v368 : FVec F S16384x512 .f32) : IVec S_ 1 :=
  let main_v369 : FVec F S16384x1 .f32 := broadcastInDim S16384x1 ![0] bcast_S16384_S16384x1_0 main_v354
  let main_v370 : FVec F S16384x512 .f32 := broadcastInDim S16384x512 ![0, 1] bcast_S16384x1_S16384x512_0_1 main_v369
  let main_v371 : FVec F S16384x512 .f32 := mulf main_v370 main_v67
  let main_v372 : FVec F S16384x512 .f32 := addf main_v368 main_v371
  let main_v373 : FVec F S16384x1 .f32 := broadcastInDim S16384x1 ![0] bcast_S16384_S16384x1_0 main_v347
  let main_v374 : FVec F S16384x512 .f32 := broadcastInDim S16384x512 ![0, 1] bcast_S16384x1_S16384x512_0_1 main_v373
  let main_v375 : FVec F S16384x512 .f32 := mulf main_v374 main_v122
  let main_v376 : FVec F S16384x512 .f32 := addf main_v372 main_v375
  let main_v377 : FVec F S16384x1 .f32 := broadcastInDim S16384x1 ![0] bcast_S16384_S16384x1_0 main_v342
  let main_v378 : FVec F S16384x512 .f32 := broadcastInDim S16384x512 ![0, 1] bcast_S16384x1_S16384x512_0_1 main_v377
  let main_v379 : FVec F S16384x512 .f32 := mulf main_v378 main_v201
  let main_v380 : FVec F S16384x512 .f32 := addf main_v376 main_v379
  let main_v381 : FVec F S16384x1 .f32 := broadcastInDim S16384x1 ![0] bcast_S16384_S16384x1_0 main_v339
  let main_v382 : FVec F S16384x512 .f32 := broadcastInDim S16384x512 ![0, 1] bcast_S16384x1_S16384x512_0_1 main_v381
  let main_v383 : FVec F S16384x512 .f32 := mulf main_v382 main_v310
  let main_v384 : FVec F S16384x512 .f32 := addf main_v380 main_v383
  let main_v385 : FVec F S16384x512 .f32 := subf main_v12 main_v384
  let main_v386 : FVec F S16x64x32x32 .f32 := Host.absf main_arg0
  let main_cst_37 : FVec F S_ .f32 := constant S_ .f32 0x7F800000#32
  let main_v387 : FVec F S16x64x32x32 .f32 := broadcastInDim S16x64x32x32 ![] bcast_S_S16x64x32x32 main_cst_37
  let main_v388 : IVec S16x64x32x32 1 := cmpf .olt main_v386 main_v387
  let main_c_38 : IVec S_ 1 := constantI S_ 1 1#1
  let main_v389 : IVec S_ 1 := (fun x v => Host.reduce IntOp.andi x v reducesTo_S16x64x32x32_S_d0_1_2_3 h_S_) main_v388 main_c_38
  let main_v390 : FVec F S512x512 .f32 := Host.absf main_v5
  fn_part18 (F := F) main_v16 main_v43 main_v90 main_v159 main_v256 main_v389 main_v390

def fn_part16 {F : FTy → Type} [FloatOps F] (main_arg0 : FVec F S16x64x32x32 .f32) (main_v5 : FVec F S512x512 .f32) (main_v12 : FVec F S16384x512 .f32) (main_v16 : FVec F S16384x512 .f32) (main_v29 : FVec F S16384 .f32) (main_v30 : FVec F S16384x512 .f32) (main_v43 : FVec F S16384x512 .f32) (main_v59 : FVec F S16384 .f32) (main_v66 : FVec F S16384 .f32) (main_v67 : FVec F S16384x512 .f32) (main_v90 : FVec F S16384x512 .f32) (main_v109 : FVec F S16384 .f32) (main_v112 : FVec F S16384 .f32) (main_v121 : FVec F S16384 .f32) (main_v122 : FVec F S16384x512 .f32) (main_v159 : FVec F S16384x512 .f32) (main_v181 : FVec F S16384 .f32) (main_v184 : FVec F S16384 .f32) (main_v201 : FVec F S16384x512 .f32) (main_v256 : FVec F S16384x512 .f32) (main_v281 : FVec F S16384 .f32) (main_v284 : FVec F S16384 .f32) (main_v310 : FVec F S16384x512 .f32) (main_v314 : FVec F S16384 .f32) (main_v317 : FVec F S16384 .f32) (main_v339 : FVec F S16384 .f32) (main_v342 : FVec F S16384 .f32) (main_v344 : FVec F S16384 .f32) (main_v345 : FVec F S16384 .f32) : IVec S_ 1 :=
  let main_v346 : FVec F S16384 .f32 := subf main_v344 main_v345
  let main_v347 : FVec F S16384 .f32 := Host.divf main_v346 main_v121
  let main_v348 : FVec F S16384 .f32 := mulf main_v112 main_v347
  let main_v349 : FVec F S16384 .f32 := subf main_v317 main_v348
  let main_v350 : FVec F S16384 .f32 := mulf main_v184 main_v342
  let main_v351 : FVec F S16384 .f32 := subf main_v349 main_v350
  let main_v352 : FVec F S16384 .f32 := mulf main_v284 main_v339
  let main_v353 : FVec F S16384 .f32 := subf main_v351 main_v352
  let main_v354 : FVec F S16384 .f32 := Host.divf main_v353 main_v66
  let main_v355 : FVec F S16384 .f32 := mulf main_v59 main_v354
  let main_v356 : FVec F S16384 .f32 := subf main_v314 main_v355
  let main_v357 : FVec F S16384 .f32 := mulf main_v109 main_v347
  let main_v358 : FVec F S16384 .f32 := subf main_v356 main_v357
  let main_v359 : FVec F S16384 .f32 := mulf main_v181 main_v342
  let main_v360 : FVec F S16384 .f32 := subf main_v358 main_v359
  let main_v361 : FVec F S16384 .f32 := mulf main_v281 main_v339
  let main_v362 : FVec F S16384 .f32 := subf main_v360 main_v361
  let main_v363 : FVec F S16384 .f32 := Host.divf main_v362 main_v29
  let main_v364 : FVec F S16384x1 .f32 := broadcastInDim S16384x1 ![0] bcast_S16384_S16384x1_0 main_v363
  let main_v365 : FVec F S16384x512 .f32 := broadcastInDim S16384x512 ![0, 1] bcast_S16384x1_S16384x512_0_1 main_v364
  let main_v366 : FVec F S16384x512 .f32 := mulf main_v365 main_v30
  let main_cst_36 : FVec F S_ .f32 := constant S_ .f32 0x00000000#32
  let main_v367 : FVec F S16384x512 .f32 := broadcastInDim S16384x512 ![] bcast_S_S16384x512 main_cst_36
  let main_v368 : FVec F S16384x512 .f32 := addf main_v367 main_v366
  fn_part17 (F := F) main_arg0 main_v5 main_v12 main_v16 main_v43 main_v67 main_v90 main_v122 main_v159 main_v201 main_v256 main_v310 main_v339 main_v342 main_v347 main_v354 main_v368

def fn_part15 {F : FTy → Type} [FloatOps F] (main_arg0 : FVec F S16x64x32x32 .f32) (main_v5 : FVec F S512x512 .f32) (main_v12 : FVec F S16384x512 .f32) (main_v16 : FVec F S16384x512 .f32) (main_v29 : FVec F S16384 .f32) (main_v30 : FVec F S16384x512 .f32) (main_v43 : FVec F S16384x512 .f32) (main_v59 : FVec F S16384 .f32) (main_v66 : FVec F S16384 .f32) (main_v67 : FVec F S16384x512 .f32) (main_v90 : FVec F S16384x512 .f32) (main_v109 : FVec F S16384 .f32) (main_v112 : FVec F S16384 .f32) (main_v121 : FVec F S16384 .f32) (main_v122 : FVec F S16384x512 .f32) (main_v159 : FVec F S16384x512 .f32) (main_v181 : FVec F S16384 .f32) (main_v184 : FVec F S16384 .f32) (main_v189 : FVec F S16384 .f32) (main_v200 : FVec F S16384 .f32) (main_v201 : FVec F S16384x512 .f32) (main_v204 : FVec F S16384 .f32) (main_v256 : FVec F S16384x512 .f32) (main_v281 : FVec F S16384 .f32) (main_v284 : FVec F S16384 .f32) (main_v289 : FVec F S16384 .f32) (main_v296 : FVec F S16384 .f32) (main_v309 : FVec F S16384 .f32) (main_v310 : FVec F S16384x512 .f32) (main_v313 : FVec F S16384 .f32) (main_v314 : FVec F S16384 .f32) (main_v317 : FVec F S16384 .f32) (main_v321 : FVec F S16384 .f32) : IVec S_ 1 :=
  let main_v322 : FVec F S16384 .f32 := Host.divf main_v321 main_v121
  let main_v323 : FVec F S16384 .f32 := mulf main_v181 main_v314
  let main_v324 : FVec F S16384 .f32 := subf main_v204 main_v323
  let main_v325 : FVec F S16384 .f32 := mulf main_v184 main_v317
  let main_v326 : FVec F S16384 .f32 := subf main_v324 main_v325
  let main_v327 : FVec F S16384 .f32 := mulf main_v189 main_v322
  let main_v328 : FVec F S16384 .f32 := subf main_v326 main_v327
  let main_v329 : FVec F S16384 .f32 := Host.divf main_v328 main_v200
  let main_v330 : FVec F S16384 .f32 := mulf main_v281 main_v314
  let main_v331 : FVec F S16384 .f32 := subf main_v313 main_v330
  let main_v332 : FVec F S16384 .f32 := mulf main_v284 main_v317
  let main_v333 : FVec F S16384 .f32 := subf main_v331 main_v332
  let main_v334 : FVec F S16384 .f32 := mulf main_v289 main_v322
  let main_v335 : FVec F S16384 .f32 := subf main_v333 main_v334
  let main_v336 : FVec F S16384 .f32 := mulf main_v296 main_v329
  let main_v337 : FVec F S16384 .f32 := subf main_v335 main_v336
  let main_v338 : FVec F S16384 .f32 := Host.divf main_v337 main_v309
  let main_v339 : FVec F S16384 .f32 := Host.divf main_v338 main_v309
  let main_v340 : FVec F S16384 .f32 := mulf main_v296 main_v339
  let main_v341 : FVec F S16384 .f32 := subf main_v329 main_v340
  let main_v342 : FVec F S16384 .f32 := Host.divf main_v341 main_v200
  let main_v343 : FVec F S16384 .f32 := mulf main_v189 main_v342
  let main_v344 : FVec F S16384 .f32 := subf main_v322 main_v343
  let main_v345 : FVec F S16384 .f32 := mulf main_v289 main_v339
  fn_part16 (F := F) main_arg0 main_v5 main_v12 main_v16 main_v29 main_v30 main_v43 main_v59 main_v66 main_v67 main_v90 main_v109 main_v112 main_v121 main_v122 main_v159 main_v181 main_v184 main_v201 main_v256 main_v281 main_v284 main_v310 main_v314 main_v317 main_v339 main_v342 main_v344 main_v345

def fn_part14 {F : FTy → Type} [FloatOps F] (main_arg0 : FVec F S16x64x32x32 .f32) (main_v5 : FVec F S512x512 .f32) (main_v9 : FVec F S512x512 .f32) (main_v12 : FVec F S16384x512 .f32) (main_v16 : FVec F S16384x512 .f32) (main_v29 : FVec F S16384 .f32) (main_v30 : FVec F S16384x512 .f32) (main_v33 : FVec F S16384 .f32) (main_v43 : FVec F S16384x512 .f32) (main_v59 : FVec F S16384 .f32) (main_v66 : FVec F S16384 .f32) (main_v67 : FVec F S16384x512 .f32) (main_v70 : FVec F S16384 .f32) (main_v90 : FVec F S16384x512 .f32) (main_v109 : FVec F S16384 .f32) (main_v112 : FVec F S16384 .f32) (main_v121 : FVec F S16384 .f32) (main_v122 : FVec F S16384x512 .f32) (main_v125 : FVec F S16384 .f32) (main_v159 : FVec F S16384x512 .f32) (main_v181 : FVec F S16384 .f32) (main_v184 : FVec F S16384 .f32) (main_v189 : FVec F S16384 .f32) (main_v200 : FVec F S16384 .f32) (main_v201 : FVec F S16384x512 .f32) (main_v204 : FVec F S16384 .f32) (main_v256 : FVec F S16384x512 .f32) (main_v263 : IVec S16384 32) (main_v281 : FVec F S16384 .f32) (main_v284 : FVec F S16384 .f32) (main_v289 : FVec F S16384 .f32) (main_v296 : FVec F S16384 .f32) (main_v298 : FVec F S16384 .f32) (main_cst_34 : FVec F S_ .f32) : IVec S_ 1 :=
  let main_v299 : FVec F S16384 .f32 := broadcastInDim S16384 ![] bcast_S_S16384 main_cst_34
  let main_v300 : FVec F S16384 .f32 := addf main_v299 main_v298
  let main_v301 : FVec F S16384 .f32 := mulf main_v284 main_v284
  let main_v302 : FVec F S16384 .f32 := addf main_v300 main_v301
  let main_v303 : FVec F S16384 .f32 := mulf main_v289 main_v289
  let main_v304 : FVec F S16384 .f32 := addf main_v302 main_v303
  let main_v305 : FVec F S16384 .f32 := mulf main_v296 main_v296
  let main_v306 : FVec F S16384 .f32 := addf main_v304 main_v305
  let main_cst_35 : FVec F S_ .f32 := constant S_ .f32 0x3F800000#32
  let main_v307 : FVec F S16384 .f32 := broadcastInDim S16384 ![] bcast_S_S16384 main_cst_35
  let main_v308 : FVec F S16384 .f32 := subf main_v307 main_v306
  let main_v309 : FVec F S16384 .f32 := Host.sqrt main_v308
  let main_v310 : FVec F S16384x512 .f32 := fn_take (F := F) main_v9 main_v263
  let main_v311 : IVec S16384x1 32 := broadcastInDim S16384x1 ![0] bcast_S16384_S16384x1_0 main_v263
  let main_v312 : FVec F S16384x1 .f32 := fn_take_along_axis (F := F) main_v12 main_v311
  let main_v313 : FVec F S16384 .f32 := shapeCast S16384 main_v312 shapeCasts_S16384x1_S16384
  let main_v314 : FVec F S16384 .f32 := Host.divf main_v33 main_v29
  let main_v315 : FVec F S16384 .f32 := mulf main_v59 main_v314
  let main_v316 : FVec F S16384 .f32 := subf main_v70 main_v315
  let main_v317 : FVec F S16384 .f32 := Host.divf main_v316 main_v66
  let main_v318 : FVec F S16384 .f32 := mulf main_v109 main_v314
  let main_v319 : FVec F S16384 .f32 := subf main_v125 main_v318
  let main_v320 : FVec F S16384 .f32 := mulf main_v112 main_v317
  let main_v321 : FVec F S16384 .f32 := subf main_v319 main_v320
  fn_part15 (F := F) main_arg0 main_v5 main_v12 main_v16 main_v29 main_v30 main_v43 main_v59 main_v66 main_v67 main_v90 main_v109 main_v112 main_v121 main_v122 main_v159 main_v181 main_v184 main_v189 main_v200 main_v201 main_v204 main_v256 main_v281 main_v284 main_v289 main_v296 main_v309 main_v310 main_v313 main_v314 main_v317 main_v321

def fn_part13 {F : FTy → Type} [FloatOps F] (main_arg0 : FVec F S16x64x32x32 .f32) (main_v5 : FVec F S512x512 .f32) (main_v9 : FVec F S512x512 .f32) (main_v12 : FVec F S16384x512 .f32) (main_v16 : FVec F S16384x512 .f32) (main_v29 : FVec F S16384 .f32) (main_v30 : FVec F S16384x512 .f32) (main_v33 : FVec F S16384 .f32) (main_v43 : FVec F S16384x512 .f32) (main_v59 : FVec F S16384 .f32) (main_v66 : FVec F S16384 .f32) (main_v67 : FVec F S16384x512 .f32) (main_v70 : FVec F S16384 .f32) (main_v90 : FVec F S16384x512 .f32) (main_v109 : FVec F S16384 .f32) (main_v112 : FVec F S16384 .f32) (main_v121 : FVec F S16384 .f32) (main_v122 : FVec F S16384x512 .f32) (main_v125 : FVec F S16384 .f32) (main_v159 : FVec F S16384x512 .f32) (main_v181 : FVec F S16384 .f32) (main_v184 : FVec F S16384 .f32) (main_v189 : FVec F S16384 .f32) (main_v200 : FVec F S16384 .f32) (main_v201 : FVec F S16384x512 .f32) (main_v204 : FVec F S16384 .f32) (main_v256 : FVec F S16384x512 .f32) (main_v263 : IVec S16384 32) (main_v271 : FVec F S16384 .f32) (main_v274 : FVec F S16384 .f32) (main_v276 : FVec F S16384x1 .f32) : IVec S_ 1 :=
  let main_v277 : FVec F S16384 .f32 := shapeCast S16384 main_v276 shapeCasts_S16384x1_S16384
  let main_v278 : IVec S16384x1 32 := broadcastInDim S16384x1 ![0] bcast_S16384_S16384x1_0 main_v263
  let main_v279 : FVec F S16384x1 .f32 := fn_take_along_axis (F := F) main_v201 main_v278
  let main_v280 : FVec F S16384 .f32 := shapeCast S16384 main_v279 shapeCasts_S16384x1_S16384
  let main_v281 : FVec F S16384 .f32 := Host.divf main_v271 main_v29
  let main_v282 : FVec F S16384 .f32 := mulf main_v59 main_v281
  let main_v283 : FVec F S16384 .f32 := subf main_v274 main_v282
  let main_v284 : FVec F S16384 .f32 := Host.divf main_v283 main_v66
  let main_v285 : FVec F S16384 .f32 := mulf main_v109 main_v281
  let main_v286 : FVec F S16384 .f32 := subf main_v277 main_v285
  let main_v287 : FVec F S16384 .f32 := mulf main_v112 main_v284
  let main_v288 : FVec F S16384 .f32 := subf main_v286 main_v287
  let main_v289 : FVec F S16384 .f32 := Host.divf main_v288 main_v121
  let main_v290 : FVec F S16384 .f32 := mulf main_v181 main_v281
  let main_v291 : FVec F S16384 .f32 := subf main_v280 main_v290
  let main_v292 : FVec F S16384 .f32 := mulf main_v184 main_v284
  let main_v293 : FVec F S16384 .f32 := subf main_v291 main_v292
  let main_v294 : FVec F S16384 .f32 := mulf main_v189 main_v289
  let main_v295 : FVec F S16384 .f32 := subf main_v293 main_v294
  let main_v296 : FVec F S16384 .f32 := Host.divf main_v295 main_v200
  let main_cst_33 : FVec F S_ .f32 := constant S_ .f32 0x3F800000#32
  let main_v297 : FVec F S16384 .f32 := broadcastInDim S16384 ![] bcast_S_S16384 main_cst_33
  let main_v298 : FVec F S16384 .f32 := mulf main_v281 main_v281
  let main_cst_34 : FVec F S_ .f32 := constant S_ .f32 0x00000000#32
  fn_part14 (F := F) main_arg0 main_v5 main_v9 main_v12 main_v16 main_v29 main_v30 main_v33 main_v43 main_v59 main_v66 main_v67 main_v70 main_v90 main_v109 main_v112 main_v121 main_v122 main_v125 main_v159 main_v181 main_v184 main_v189 main_v200 main_v201 main_v204 main_v256 main_v263 main_v281 main_v284 main_v289 main_v296 main_v298 main_cst_34

def fn_part12 {F : FTy → Type} [FloatOps F] (main_arg0 : FVec F S16x64x32x32 .f32) (main_v5 : FVec F S512x512 .f32) (main_v9 : FVec F S512x512 .f32) (main_v12 : FVec F S16384x512 .f32) (main_v13 : IVec S16384x512 32) (main_v16 : FVec F S16384x512 .f32) (main_v29 : FVec F S16384 .f32) (main_v30 : FVec F S16384x512 .f32) (main_v33 : FVec F S16384 .f32) (main_v43 : FVec F S16384x512 .f32) (main_v59 : FVec F S16384 .f32) (main_v66 : FVec F S16384 .f32) (main_v67 : FVec F S16384x512 .f32) (main_v70 : FVec F S16384 .f32) (main_v90 : FVec F S16384x512 .f32) (main_v109 : FVec F S16384 .f32) (main_v112 : FVec F S16384 .f32) (main_v121 : FVec F S16384 .f32) (main_v122 : FVec F S16384x512 .f32) (main_v125 : FVec F S16384 .f32) (main_v159 : FVec F S16384x512 .f32) (main_v171 : FVec F S16384x512 .f32) (main_v181 : FVec F S16384 .f32) (main_v184 : FVec F S16384 .f32) (main_v189 : FVec F S16384 .f32) (main_v200 : FVec F S16384 .f32) (main_v201 : FVec F S16384x512 .f32) (main_v204 : FVec F S16384 .f32) (main_v256 : FVec F S16384x512 .f32) : IVec S_ 1 :=
  let main_cst_29 : FVec F S_ .f32 := constant S_ .f32 0xFF800000#32
  let main_v257 : FVec F S16384 .f32 := (fun x v => Host.reduce FloatOps.maximumf x v reducesTo_S16384x512_S16384_d1 h_S_) main_v256 main_cst_29
  let main_v258 : FVec F S16384x1 .f32 := broadcastInDim S16384x1 ![0] bcast_S16384_S16384x1_0 main_v257
  let main_v259 : FVec F S16384x512 .f32 := broadcastInDim S16384x512 ![0, 1] bcast_S16384x1_S16384x512_0_1 main_v258
  let main_v260 : IVec S16384x512 1 := cmpf .oeq main_v256 main_v259
  let main_c_30 : IVec S_ 32 := constantI S_ 32 512#32
  let main_v261 : IVec S16384x512 32 := broadcastInDim S16384x512 ![] bcast_S_S16384x512 main_c_30
  let main_v262 : IVec S16384x512 32 := select main_v260 main_v13 main_v261
  let main_c_31 : IVec S_ 32 := constantI S_ 32 2147483647#32
  let main_v263 : IVec S16384 32 := (fun x v => Host.reduce IntOp.minsi x v reducesTo_S16384x512_S16384_d1 h_S_) main_v262 main_c_31
  let main_v264 : IVec S16384x1 32 := broadcastInDim S16384x1 ![0] bcast_S16384_S16384x1_0 main_v263
  let main_v265 : IVec S16384x512 32 := broadcastInDim S16384x512 ![0, 1] bcast_S16384x1_S16384x512_0_1 main_v264
  let main_v266 : IVec S16384x512 1 := cmpi .eq main_v13 main_v265
  let main_cst_32 : FVec F S_ .f32 := constant S_ .f32 0x00000000#32
  let main_v267 : FVec F S16384x512 .f32 := broadcastInDim S16384x512 ![] bcast_S_S16384x512 main_cst_32
  let main_v268 : FVec F S16384x512 .f32 := select main_v266 main_v267 main_v171
  let main_v269 : IVec S16384x1 32 := broadcastInDim S16384x1 ![0] bcast_S16384_S16384x1_0 main_v263
  let main_v270 : FVec F S16384x1 .f32 := fn_take_along_axis (F := F) main_v30 main_v269
  let main_v271 : FVec F S16384 .f32 := shapeCast S16384 main_v270 shapeCasts_S16384x1_S16384
  let main_v272 : IVec S16384x1 32 := broadcastInDim S16384x1 ![0] bcast_S16384_S16384x1_0 main_v263
  let main_v273 : FVec F S16384x1 .f32 := fn_take_along_axis (F := F) main_v67 main_v272
  let main_v274 : FVec F S16384 .f32 := shapeCast S16384 main_v273 shapeCasts_S16384x1_S16384
  let main_v275 : IVec S16384x1 32 := broadcastInDim S16384x1 ![0] bcast_S16384_S16384x1_0 main_v263
  let main_v276 : FVec F S16384x1 .f32 := fn_take_along_axis (F := F) main_v122 main_v275
  fn_part13 (F := F) main_arg0 main_v5 main_v9 main_v12 main_v16 main_v29 main_v30 main_v33 main_v43 main_v59 main_v66 main_v67 main_v70 main_v90 main_v109 main_v112 main_v121 main_v122 main_v125 main_v159 main_v181 main_v184 main_v189 main_v200 main_v201 main_v204 main_v256 main_v263 main_v271 main_v274 main_v276

def fn_part11 {F : FTy → Type} [FloatOps F] (main_arg0 : FVec F S16x64x32x32 .f32) (main_v5 : FVec F S512x512 .f32) (main_v9 : FVec F S512x512 .f32) (main_v12 : FVec F S16384x512 .f32) (main_v13 : IVec S16384x512 32) (main_v16 : FVec F S16384x512 .f32) (main_v29 : FVec F S16384 .f32) (main_v30 : FVec F S16384x512 .f32) (main_v33 : FVec F S16384 .f32) (main_v43 : FVec F S16384x512 .f32) (main_v59 : FVec F S16384 .f32) (main_v66 : FVec F S16384 .f32) (main_v67 : FVec F S16384x512 .f32) (main_v70 : FVec F S16384 .f32) (main_v90 : FVec F S16384x512 .f32) (main_v109 : FVec F S16384 .f32) (main_v112 : FVec F S16384 .f32) (main_v121 : FVec F S16384 .f32) (main_v122 : FVec F S16384x512 .f32) (main_v125 : FVec F S16384 .f32) (main_v159 : FVec F S16384x512 .f32) (main_v171 : FVec F S16384x512 .f32) (main_v181 : FVec F S16384 .f32) (main_v184 : FVec F S16384 .f32) (main_v189 : FVec F S16384 .f32) (main_v200 : FVec F S16384 .f32) (main_v201 : FVec F S16384x512 .f32) (main_v204 : FVec F S16384 .f32) (main_v221 : FVec F S16384 .f32) (main_v224 : FVec F S16384 .f32) (main_v229 : FVec F S16384 .f32) (main_v233 : FVec F S16384 .f32) : IVec S_ 1 :=
  let main_v234 : FVec F S16384 .f32 := mulf main_v181 main_v221
  let main_v235 : FVec F S16384 .f32 := subf main_v233 main_v234
  let main_v236 : FVec F S16384 .f32 := Host.divf main_v235 main_v29
  let main_v237 : FVec F S16384x1 .f32 := broadcastInDim S16384x1 ![0] bcast_S16384_S16384x1_0 main_v236
  let main_v238 : FVec F S16384x512 .f32 := broadcastInDim S16384x512 ![0, 1] bcast_S16384x1_S16384x512_0_1 main_v237
  let main_v239 : FVec F S16384x512 .f32 := mulf main_v238 main_v30
  let main_cst_28 : FVec F S_ .f32 := constant S_ .f32 0x00000000#32
  let main_v240 : FVec F S16384x512 .f32 := broadcastInDim S16384x512 ![] bcast_S_S16384x512 main_cst_28
  let main_v241 : FVec F S16384x512 .f32 := addf main_v240 main_v239
  let main_v242 : FVec F S16384x1 .f32 := broadcastInDim S16384x1 ![0] bcast_S16384_S16384x1_0 main_v229
  let main_v243 : FVec F S16384x512 .f32 := broadcastInDim S16384x512 ![0, 1] bcast_S16384x1_S16384x512_0_1 main_v242
  let main_v244 : FVec F S16384x512 .f32 := mulf main_v243 main_v67
  let main_v245 : FVec F S16384x512 .f32 := addf main_v241 main_v244
  let main_v246 : FVec F S16384x1 .f32 := broadcastInDim S16384x1 ![0] bcast_S16384_S16384x1_0 main_v224
  let main_v247 : FVec F S16384x512 .f32 := broadcastInDim S16384x512 ![0, 1] bcast_S16384x1_S16384x512_0_1 main_v246
  let main_v248 : FVec F S16384x512 .f32 := mulf main_v247 main_v122
  let main_v249 : FVec F S16384x512 .f32 := addf main_v245 main_v248
  let main_v250 : FVec F S16384x1 .f32 := broadcastInDim S16384x1 ![0] bcast_S16384_S16384x1_0 main_v221
  let main_v251 : FVec F S16384x512 .f32 := broadcastInDim S16384x512 ![0, 1] bcast_S16384x1_S16384x512_0_1 main_v250
  let main_v252 : FVec F S16384x512 .f32 := mulf main_v251 main_v201
  let main_v253 : FVec F S16384x512 .f32 := addf main_v249 main_v252
  let main_v254 : FVec F S16384x512 .f32 := subf main_v12 main_v253
  let main_v255 : FVec F S16384x512 .f32 := mulf main_v254 main_v171
  let main_v256 : FVec F S16384x512 .f32 := Host.absf main_v255
  fn_part12 (F := F) main_arg0 main_v5 main_v9 main_v12 main_v13 main_v16 main_v29 main_v30 main_v33 main_v43 main_v59 main_v66 main_v67 main_v70 main_v90 main_v109 main_v112 main_v121 main_v122 main_v125 main_v159 main_v171 main_v181 main_v184 main_v189 main_v200 main_v201 main_v204 main_v256

def fn_part10 {F : FTy → Type} [FloatOps F] (main_arg0 : FVec F S16x64x32x32 .f32) (main_v5 : FVec F S512x512 .f32) (main_v9 : FVec F S512x512 .f32) (main_v12 : FVec F S16384x512 .f32) (main_v13 : IVec S16384x512 32) (main_v16 : FVec F S16384x512 .f32) (main_v29 : FVec F S16384 .f32) (main_v30 : FVec F S16384x512 .f32) (main_v33 : FVec F S16384 .f32) (main_v43 : FVec F S16384x512 .f32) (main_v59 : FVec F S16384 .f32) (main_v66 : FVec F S16384 .f32) (main_v67 : FVec F S16384x512 .f32) (main_v70 : FVec F S16384 .f32) (main_v90 : FVec F S16384x512 .f32) (main_v109 : FVec F S16384 .f32) (main_v112 : FVec F S16384 .f32) (main_v121 : FVec F S16384 .f32) (main_v122 : FVec F S16384x512 .f32) (main_v125 : FVec F S16384 .f32) (main_v159 : FVec F S16384x512 .f32) (main_v171 : FVec F S16384x512 .f32) (main_v181 : FVec F S16384 .f32) (main_v184 : FVec F S16384 .f32) (main_v189 : FVec F S16384 .f32) (main_v200 : FVec F S16384 .f32) (main_v201 : FVec F S16384x512 .f32) (main_v204 : FVec F S16384 .f32) (main_v205 : FVec F S16384 .f32) (main_v208 : FVec F S16384 .f32) (main_v209 : FVec F S16384 .f32) : IVec S_ 1 :=
  let main_v210 : FVec F S16384 .f32 := subf main_v125 main_v209
  let main_v211 : FVec F S16384 .f32 := mulf main_v112 main_v208
  let main_v212 : FVec F S16384 .f32 := subf main_v210 main_v211
  let main_v213 : FVec F S16384 .f32 := Host.divf main_v212 main_v121
  let main_v214 : FVec F S16384 .f32 := mulf main_v181 main_v205
  let main_v215 : FVec F S16384 .f32 := subf main_v204 main_v214
  let main_v216 : FVec F S16384 .f32 := mulf main_v184 main_v208
  let main_v217 : FVec F S16384 .f32 := subf main_v215 main_v216
  let main_v218 : FVec F S16384 .f32 := mulf main_v189 main_v213
  let main_v219 : FVec F S16384 .f32 := subf main_v217 main_v218
  let main_v220 : FVec F S16384 .f32 := Host.divf main_v219 main_v200
  let main_v221 : FVec F S16384 .f32 := Host.divf main_v220 main_v200
  let main_v222 : FVec F S16384 .f32 := mulf main_v189 main_v221
  let main_v223 : FVec F S16384 .f32 := subf main_v213 main_v222
  let main_v224 : FVec F S16384 .f32 := Host.divf main_v223 main_v121
  let main_v225 : FVec F S16384 .f32 := mulf main_v112 main_v224
  let main_v226 : FVec F S16384 .f32 := subf main_v208 main_v225
  let main_v227 : FVec F S16384 .f32 := mulf main_v184 main_v221
  let main_v228 : FVec F S16384 .f32 := subf main_v226 main_v227
  let main_v229 : FVec F S16384 .f32 := Host.divf main_v228 main_v66
  let main_v230 : FVec F S16384 .f32 := mulf main_v59 main_v229
  let main_v231 : FVec F S16384 .f32 := subf main_v205 main_v230
  let main_v232 : FVec F S16384 .f32 := mulf main_v109 main_v224
  let main_v233 : FVec F S16384 .f32 := subf main_v231 main_v232
  fn_part11 (F := F) main_arg0 main_v5 main_v9 main_v12 main_v13 main_v16 main_v29 main_v30 main_v33 main_v43 main_v59 main_v66 main_v67 main_v70 main_v90 main_v109 main_v112 main_v121 main_v122 main_v125 main_v159 main_v171 main_v181 main_v184 main_v189 main_v200 main_v201 main_v204 main_v221 main_v224 main_v229 main_v233

def fn_part9 {F : FTy → Type} [FloatOps F] (main_arg0 : FVec F S16x64x32x32 .f32) (main_v5 : FVec F S512x512 .f32) (main_v9 : FVec F S512x512 .f32) (main_v12 : FVec F S16384x512 .f32) (main_v13 : IVec S16384x512 32) (main_v16 : FVec F S16384x512 .f32) (main_v29 : FVec F S16384 .f32) (main_v30 : FVec F S16384x512 .f32) (main_v33 : FVec F S16384 .f32) (main_v43 : FVec F S16384x512 .f32) (main_v59 : FVec F S16384 .f32) (main_v66 : FVec F S16384 .f32) (main_v67 : FVec F S16384x512 .f32) (main_v70 : FVec F S16384 .f32) (main_v90 : FVec F S16384x512 .f32) (main_v109 : FVec F S16384 .f32) (main_v112 : FVec F S16384 .f32) (main_v121 : FVec F S16384 .f32) (main_v122 : FVec F S16384x512 .f32) (main_v125 : FVec F S16384 .f32) (main_v159 : FVec F S16384x512 .f32) (main_v166 : IVec S16384 32) (main_v171 : FVec F S16384x512 .f32) (main_v181 : FVec F S16384 .f32) (main_v184 : FVec F S16384 .f32) (main_v188 : FVec F S16384 .f32) : IVec S_ 1 :=
  let main_v189 : FVec F S16384 .f32 := Host.divf main_v188 main_v121
  let main_cst_25 : FVec F S_ .f32 := constant S_ .f32 0x3F800000#32
  let main_v190 : FVec F S16384 .f32 := broadcastInDim S16384 ![] bcast_S_S16384 main_cst_25
  let main_v191 : FVec F S16384 .f32 := mulf main_v181 main_v181
  let main_cst_26 : FVec F S_ .f32 := constant S_ .f32 0x00000000#32
  let main_v192 : FVec F S16384 .f32 := broadcastInDim S16384 ![] bcast_S_S16384 main_cst_26
  let main_v193 : FVec F S16384 .f32 := addf main_v192 main_v191
  let main_v194 : FVec F S16384 .f32 := mulf main_v184 main_v184
  let main_v195 : FVec F S16384 .f32 := addf main_v193 main_v194
  let main_v196 : FVec F S16384 .f32 := mulf main_v189 main_v189
  let main_v197 : FVec F S16384 .f32 := addf main_v195 main_v196
  let main_cst_27 : FVec F S_ .f32 := constant S_ .f32 0x3F800000#32
  let main_v198 : FVec F S16384 .f32 := broadcastInDim S16384 ![] bcast_S_S16384 main_cst_27
  let main_v199 : FVec F S16384 .f32 := subf main_v198 main_v197
  let main_v200 : FVec F S16384 .f32 := Host.sqrt main_v199
  let main_v201 : FVec F S16384x512 .f32 := fn_take (F := F) main_v9 main_v166
  let main_v202 : IVec S16384x1 32 := broadcastInDim S16384x1 ![0] bcast_S16384_S16384x1_0 main_v166
  let main_v203 : FVec F S16384x1 .f32 := fn_take_along_axis (F := F) main_v12 main_v202
  let main_v204 : FVec F S16384 .f32 := shapeCast S16384 main_v203 shapeCasts_S16384x1_S16384
  let main_v205 : FVec F S16384 .f32 := Host.divf main_v33 main_v29
  let main_v206 : FVec F S16384 .f32 := mulf main_v59 main_v205
  let main_v207 : FVec F S16384 .f32 := subf main_v70 main_v206
  let main_v208 : FVec F S16384 .f32 := Host.divf main_v207 main_v66
  let main_v209 : FVec F S16384 .f32 := mulf main_v109 main_v205
  fn_part10 (F := F) main_arg0 main_v5 main_v9 main_v12 main_v13 main_v16 main_v29 main_v30 main_v33 main_v43 main_v59 main_v66 main_v67 main_v70 main_v90 main_v109 main_v112 main_v121 main_v122 main_v125 main_v159 main_v171 main_v181 main_v184 main_v189 main_v200 main_v201 main_v204 main_v205 main_v208 main_v209

def fn_part8 {F : FTy → Type} [FloatOps F] (main_arg0 : FVec F S16x64x32x32 .f32) (main_v5 : FVec F S512x512 .f32) (main_v9 : FVec F S512x512 .f32) (main_v12 : FVec F S16384x512 .f32) (main_v13 : IVec S16384x512 32) (main_v16 : FVec F S16384x512 .f32) (main_v29 : FVec F S16384 .f32) (main_v30 : FVec F S16384x512 .f32) (main_v33 : FVec F S16384 .f32) (main_v43 : FVec F S16384x512 .f32) (main_v59 : FVec F S16384 .f32) (main_v66 : FVec F S16384 .f32) (main_v67 : FVec F S16384x512 .f32) (main_v70 : FVec F S16384 .f32) (main_v90 : FVec F S16384x512 .f32) (main_v102 : FVec F S16384x512 .f32) (main_v109 : FVec F S16384 .f32) (main_v112 : FVec F S16384 .f32) (main_v121 : FVec F S16384 .f32) (main_v122 : FVec F S16384x512 .f32) (main_v125 : FVec F S16384 .f32) (main_v159 : FVec F S16384x512 .f32) (main_v165 : IVec S16384x512 32) (main_c_23 : IVec S_ 32) : IVec S_ 1 :=
  let main_v166 : IVec S16384 32 := (fun x v => Host.reduce IntOp.minsi x v reducesTo_S16384x512_S16384_d1 h_S_) main_v165 main_c_23
  let main_v167 : IVec S16384x1 32 := broadcastInDim S16384x1 ![0] bcast_S16384_S16384x1_0 main_v166
  let main_v168 : IVec S16384x512 32 := broadcastInDim S16384x512 ![0, 1] bcast_S16384x1_S16384x512_0_1 main_v167
  let main_v169 : IVec S16384x512 1 := cmpi .eq main_v13 main_v168
  let main_cst_24 : FVec F S_ .f32 := constant S_ .f32 0x00000000#32
  let main_v170 : FVec F S16384x512 .f32 := broadcastInDim S16384x512 ![] bcast_S_S16384x512 main_cst_24
  let main_v171 : FVec F S16384x512 .f32 := select main_v169 main_v170 main_v102
  let main_v172 : IVec S16384x1 32 := broadcastInDim S16384x1 ![0] bcast_S16384_S16384x1_0 main_v166
  let main_v173 : FVec F S16384x1 .f32 := fn_take_along_axis (F := F) main_v30 main_v172
  let main_v174 : FVec F S16384 .f32 := shapeCast S16384 main_v173 shapeCasts_S16384x1_S16384
  let main_v175 : IVec S16384x1 32 := broadcastInDim S16384x1 ![0] bcast_S16384_S16384x1_0 main_v166
  let main_v176 : FVec F S16384x1 .f32 := fn_take_along_axis (F := F) main_v67 main_v175
  let main_v177 : FVec F S16384 .f32 := shapeCast S16384 main_v176 shapeCasts_S16384x1_S16384
  let main_v178 : IVec S16384x1 32 := broadcastInDim S16384x1 ![0] bcast_S16384_S16384x1_0 main_v166
  let main_v179 : FVec F S16384x1 .f32 := fn_take_along_axis (F := F) main_v122 main_v178
  let main_v180 : FVec F S16384 .f32 := shapeCast S16384 main_v179 shapeCasts_S16384x1_S16384
  let main_v181 : FVec F S16384 .f32 := Host.divf main_v174 main_v29
  let main_v182 : FVec F S16384 .f32 := mulf main_v59 main_v181
  let main_v183 : FVec F S16384 .f32 := subf main_v177 main_v182
  let main_v184 : FVec F S16384 .f32 := Host.divf main_v183 main_v66
  let main_v185 : FVec F S16384 .f32 := mulf main_v109 main_v181
  let main_v186 : FVec F S16384 .f32 := subf main_v180 main_v185
  let main_v187 : FVec F S16384 .f32 := mulf main_v112 main_v184
  let main_v188 : FVec F S16384 .f32 := subf main_v186 main_v187
  fn_part9 (F := F) main_arg0 main_v5 main_v9 main_v12 main_v13 main_v16 main_v29 main_v30 main_v33 main_v43 main_v59 main_v66 main_v67 main_v70 main_v90 main_v109 main_v112 main_v121 main_v122 main_v125 main_v159 main_v166 main_v171 main_v181 main_v184 main_v188

def fn_part7 {F : FTy → Type} [FloatOps F] (main_arg0 : FVec F S16x64x32x32 .f32) (main_v5 : FVec F S512x512 .f32) (main_v9 : FVec F S512x512 .f32) (main_v12 : FVec F S16384x512 .f32) (main_v13 : IVec S16384x512 32) (main_v16 : FVec F S16384x512 .f32) (main_v29 : FVec F S16384 .f32) (main_v30 : FVec F S16384x512 .f32) (main_v33 : FVec F S16384 .f32) (main_v43 : FVec F S16384x512 .f32) (main_v59 : FVec F S16384 .f32) (main_v66 : FVec F S16384 .f32) (main_v67 : FVec F S16384x512 .f32) (main_v70 : FVec F S16384 .f32) (main_v90 : FVec F S16384x512 .f32) (main_v102 : FVec F S16384x512 .f32) (main_v109 : FVec F S16384 .f32) (main_v112 : FVec F S16384 .f32) (main_v121 : FVec F S16384 .f32) (main_v122 : FVec F S16384x512 .f32) (main_v125 : FVec F S16384 .f32) (main_v135 : FVec F S16384 .f32) (main_v138 : FVec F S16384 .f32) (main_v145 : FVec F S16384x512 .f32) : IVec S_ 1 :=
  let main_v146 : FVec F S16384x512 .f32 := mulf main_v145 main_v30
  let main_cst_20 : FVec F S_ .f32 := constant S_ .f32 0x00000000#32
  let main_v147 : FVec F S16384x512 .f32 := broadcastInDim S16384x512 ![] bcast_S_S16384x512 main_cst_20
  let main_v148 : FVec F S16384x512 .f32 := addf main_v147 main_v146
  let main_v149 : FVec F S16384x1 .f32 := broadcastInDim S16384x1 ![0] bcast_S16384_S16384x1_0 main_v138
  let main_v150 : FVec F S16384x512 .f32 := broadcastInDim S16384x512 ![0, 1] bcast_S16384x1_S16384x512_0_1 main_v149
  let main_v151 : FVec F S16384x512 .f32 := mulf main_v150 main_v67
  let main_v152 : FVec F S16384x512 .f32 := addf main_v148 main_v151
  let main_v153 : FVec F S16384x1 .f32 := broadcastInDim S16384x1 ![0] bcast_S16384_S16384x1_0 main_v135
  let main_v154 : FVec F S16384x512 .f32 := broadcastInDim S16384x512 ![0, 1] bcast_S16384x1_S16384x512_0_1 main_v153
  let main_v155 : FVec F S16384x512 .f32 := mulf main_v154 main_v122
  let main_v156 : FVec F S16384x512 .f32 := addf main_v152 main_v155
  let main_v157 : FVec F S16384x512 .f32 := subf main_v12 main_v156
  let main_v158 : FVec F S16384x512 .f32 := mulf main_v157 main_v102
  let main_v159 : FVec F S16384x512 .f32 := Host.absf main_v158
  let main_cst_21 : FVec F S_ .f32 := constant S_ .f32 0xFF800000#32
  let main_v160 : FVec F S16384 .f32 := (fun x v => Host.reduce FloatOps.maximumf x v reducesTo_S16384x512_S16384_d1 h_S_) main_v159 main_cst_21
  let main_v161 : FVec F S16384x1 .f32 := broadcastInDim S16384x1 ![0] bcast_S16384_S16384x1_0 main_v160
  let main_v162 : FVec F S16384x512 .f32 := broadcastInDim S16384x512 ![0, 1] bcast_S16384x1_S16384x512_0_1 main_v161
  let main_v163 : IVec S16384x512 1 := cmpf .oeq main_v159 main_v162
  let main_c_22 : IVec S_ 32 := constantI S_ 32 512#32
  let main_v164 : IVec S16384x512 32 := broadcastInDim S16384x512 ![] bcast_S_S16384x512 main_c_22
  let main_v165 : IVec S16384x512 32 := select main_v163 main_v13 main_v164
  let main_c_23 : IVec S_ 32 := constantI S_ 32 2147483647#32
  fn_part8 (F := F) main_arg0 main_v5 main_v9 main_v12 main_v13 main_v16 main_v29 main_v30 main_v33 main_v43 main_v59 main_v66 main_v67 main_v70 main_v90 main_v102 main_v109 main_v112 main_v121 main_v122 main_v125 main_v159 main_v165 main_c_23

def fn_part6 {F : FTy → Type} [FloatOps F] (main_arg0 : FVec F S16x64x32x32 .f32) (main_v5 : FVec F S512x512 .f32) (main_v9 : FVec F S512x512 .f32) (main_v12 : FVec F S16384x512 .f32) (main_v13 : IVec S16384x512 32) (main_v16 : FVec F S16384x512 .f32) (main_v29 : FVec F S16384 .f32) (main_v30 : FVec F S16384x512 .f32) (main_v33 : FVec F S16384 .f32) (main_v43 : FVec F S16384x512 .f32) (main_v59 : FVec F S16384 .f32) (main_v66 : FVec F S16384 .f32) (main_v67 : FVec F S16384x512 .f32) (main_v70 : FVec F S16384 .f32) (main_v90 : FVec F S16384x512 .f32) (main_v97 : IVec S16384 32) (main_v102 : FVec F S16384x512 .f32) (main_v109 : FVec F S16384 .f32) (main_v112 : FVec F S16384 .f32) (main_v121 : FVec F S16384 .f32) : IVec S_ 1 :=
  let main_v122 : FVec F S16384x512 .f32 := fn_take (F := F) main_v9 main_v97
  let main_v123 : IVec S16384x1 32 := broadcastInDim S16384x1 ![0] bcast_S16384_S16384x1_0 main_v97
  let main_v124 : FVec F S16384x1 .f32 := fn_take_along_axis (F := F) main_v12 main_v123
  let main_v125 : FVec F S16384 .f32 := shapeCast S16384 main_v124 shapeCasts_S16384x1_S16384
  let main_v126 : FVec F S16384 .f32 := Host.divf main_v33 main_v29
  let main_v127 : FVec F S16384 .f32 := mulf main_v59 main_v126
  let main_v128 : FVec F S16384 .f32 := subf main_v70 main_v127
  let main_v129 : FVec F S16384 .f32 := Host.divf main_v128 main_v66
  let main_v130 : FVec F S16384 .f32 := mulf main_v109 main_v126
  let main_v131 : FVec F S16384 .f32 := subf main_v125 main_v130
  let main_v132 : FVec F S16384 .f32 := mulf main_v112 main_v129
  let main_v133 : FVec F S16384 .f32 := subf main_v131 main_v132
  let main_v134 : FVec F S16384 .f32 := Host.divf main_v133 main_v121
  let main_v135 : FVec F S16384 .f32 := Host.divf main_v134 main_v121
  let main_v136 : FVec F S16384 .f32 := mulf main_v112 main_v135
  let main_v137 : FVec F S16384 .f32 := subf main_v129 main_v136
  let main_v138 : FVec F S16384 .f32 := Host.divf main_v137 main_v66
  let main_v139 : FVec F S16384 .f32 := mulf main_v59 main_v138
  let main_v140 : FVec F S16384 .f32 := subf main_v126 main_v139
  let main_v141 : FVec F S16384 .f32 := mulf main_v109 main_v135
  let main_v142 : FVec F S16384 .f32 := subf main_v140 main_v141
  let main_v143 : FVec F S16384 .f32 := Host.divf main_v142 main_v29
  let main_v144 : FVec F S16384x1 .f32 := broadcastInDim S16384x1 ![0] bcast_S16384_S16384x1_0 main_v143
  let main_v145 : FVec F S16384x512 .f32 := broadcastInDim S16384x512 ![0, 1] bcast_S16384x1_S16384x512_0_1 main_v144
  fn_part7 (F := F) main_arg0 main_v5 main_v9 main_v12 main_v13 main_v16 main_v29 main_v30 main_v33 main_v43 main_v59 main_v66 main_v67 main_v70 main_v90 main_v102 main_v109 main_v112 main_v121 main_v122 main_v125 main_v135 main_v138 main_v145

def fn_part5 {F : FTy → Type} [FloatOps F] (main_arg0 : FVec F S16x64x32x32 .f32) (main_v5 : FVec F S512x512 .f32) (main_v9 : FVec F S512x512 .f32) (main_v12 : FVec F S16384x512 .f32) (main_v13 : IVec S16384x512 32) (main_v16 : FVec F S16384x512 .f32) (main_v29 : FVec F S16384 .f32) (main_v30 : FVec F S16384x512 .f32) (main_v33 : FVec F S16384 .f32) (main_v43 : FVec F S16384x512 .f32) (main_v55 : FVec F S16384x512 .f32) (main_v59 : FVec F S16384 .f32) (main_v66 : FVec F S16384 .f32) (main_v67 : FVec F S16384x512 .f32) (main_v70 : FVec F S16384 .f32) (main_v90 : FVec F S16384x512 .f32) (main_v97 : IVec S16384 32) (main_v100 : IVec S16384x512 1) (main_cst_16 : FVec F S_ .f32) : IVec S_ 1 :=
  let main_v101 : FVec F S16384x512 .f32 := broadcastInDim S16384x512 ![] bcast_S_S16384x512 main_cst_16
  let main_v102 : FVec F S16384x512 .f32 := select main_v100 main_v101 main_v55
  let main_v103 : IVec S16384x1 32 := broadcastInDim S16384x1 ![0] bcast_S16384_S16384x1_0 main_v97
  let main_v104 : FVec F S16384x1 .f32 := fn_take_along_axis (F := F) main_v30 main_v103
  let main_v105 : FVec F S16384 .f32 := shapeCast S16384 main_v104 shapeCasts_S16384x1_S16384
  let main_v106 : IVec S16384x1 32 := broadcastInDim S16384x1 ![0] bcast_S16384_S16384x1_0 main_v97
  let main_v107 : FVec F S16384x1 .f32 := fn_take_along_axis (F := F) main_v67 main_v106
  let main_v108 : FVec F S16384 .f32 := shapeCast S16384 main_v107 shapeCasts_S16384x1_S16384
  let main_v109 : FVec F S16384 .f32 := Host.divf main_v105 main_v29
  let main_v110 : FVec F S16384 .f32 := mulf main_v59 main_v109
  let main_v111 : FVec F S16384 .f32 := subf main_v108 main_v110
  let main_v112 : FVec F S16384 .f32 := Host.divf main_v111 main_v66
  let main_cst_17 : FVec F S_ .f32 := constant S_ .f32 0x3F800000#32
  let main_v113 : FVec F S16384 .f32 := broadcastInDim S16384 ![] bcast_S_S16384 main_cst_17
  let main_v114 : FVec F S16384 .f32 := mulf main_v109 main_v109
  let main_cst_18 : FVec F S_ .f32 := constant S_ .f32 0x00000000#32
  let main_v115 : FVec F S16384 .f32 := broadcastInDim S16384 ![] bcast_S_S16384 main_cst_18
  let main_v116 : FVec F S16384 .f32 := addf main_v115 main_v114
  let main_v117 : FVec F S16384 .f32 := mulf main_v112 main_v112
  let main_v118 : FVec F S16384 .f32 := addf main_v116 main_v117
  let main_cst_19 : FVec F S_ .f32 := constant S_ .f32 0x3F800000#32
  let main_v119 : FVec F S16384 .f32 := broadcastInDim S16384 ![] bcast_S_S16384 main_cst_19
  let main_v120 : FVec F S16384 .f32 := subf main_v119 main_v118
  let main_v121 : FVec F S16384 .f32 := Host.sqrt main_v120
  fn_part6 (F := F) main_arg0 main_v5 main_v9 main_v12 main_v13 main_v16 main_v29 main_v30 main_v33 main_v43 main_v59 main_v66 main_v67 main_v70 main_v90 main_v97 main_v102 main_v109 main_v112 main_v121

def fn_part4 {F : FTy → Type} [FloatOps F] (main_arg0 : FVec F S16x64x32x32 .f32) (main_v5 : FVec F S512x512 .f32) (main_v9 : FVec F S512x512 .f32) (main_v12 : FVec F S16384x512 .f32) (main_v13 : IVec S16384x512 32) (main_v16 : FVec F S16384x512 .f32) (main_v29 : FVec F S16384 .f32) (main_v30 : FVec F S16384x512 .f32) (main_v33 : FVec F S16384 .f32) (main_v43 : FVec F S16384x512 .f32) (main_v55 : FVec F S16384x512 .f32) (main_v59 : FVec F S16384 .f32) (main_v66 : FVec F S16384 .f32) (main_v67 : FVec F S16384x512 .f32) (main_v70 : FVec F S16384 .f32) (main_v75 : FVec F S16384 .f32) (main_v81 : FVec F S16384x512 .f32) : IVec S_ 1 :=
  let main_cst_12 : FVec F S_ .f32 := constant S_ .f32 0x00000000#32
  let main_v82 : FVec F S16384x512 .f32 := broadcastInDim S16384x512 ![] bcast_S_S16384x512 main_cst_12
  let main_v83 : FVec F S16384x512 .f32 := addf main_v82 main_v81
  let main_v84 : FVec F S16384x1 .f32 := broadcastInDim S16384x1 ![0] bcast_S16384_S16384x1_0 main_v75
  let main_v85 : FVec F S16384x512 .f32 := broadcastInDim S16384x512 ![0, 1] bcast_S16384x1_S16384x512_0_1 main_v84
  let main_v86 : FVec F S16384x512 .f32 := mulf main_v85 main_v67
  let main_v87 : FVec F S16384x512 .f32 := addf main_v83 main_v86
  let main_v88 : FVec F S16384x512 .f32 := subf main_v12 main_v87
  let main_v89 : FVec F S16384x512 .f32 := mulf main_v88 main_v55
  let main_v90 : FVec F S16384x512 .f32 := Host.absf main_v89
  let main_cst_13 : FVec F S_ .f32 := constant S_ .f32 0xFF800000#32
  let main_v91 : FVec F S16384 .f32 := (fun x v => Host.reduce FloatOps.maximumf x v reducesTo_S16384x512_S16384_d1 h_S_) main_v90 main_cst_13
  let main_v92 : FVec F S16384x1 .f32 := broadcastInDim S16384x1 ![0] bcast_S16384_S16384x1_0 main_v91
  let main_v93 : FVec F S16384x512 .f32 := broadcastInDim S16384x512 ![0, 1] bcast_S16384x1_S16384x512_0_1 main_v92
  let main_v94 : IVec S16384x512 1 := cmpf .oeq main_v90 main_v93
  let main_c_14 : IVec S_ 32 := constantI S_ 32 512#32
  let main_v95 : IVec S16384x512 32 := broadcastInDim S16384x512 ![] bcast_S_S16384x512 main_c_14
  let main_v96 : IVec S16384x512 32 := select main_v94 main_v13 main_v95
  let main_c_15 : IVec S_ 32 := constantI S_ 32 2147483647#32
  let main_v97 : IVec S16384 32 := (fun x v => Host.reduce IntOp.minsi x v reducesTo_S16384x512_S16384_d1 h_S_) main_v96 main_c_15
  let main_v98 : IVec S16384x1 32 := broadcastInDim S16384x1 ![0] bcast_S16384_S16384x1_0 main_v97
  let main_v99 : IVec S16384x512 32 := broadcastInDim S16384x512 ![0, 1] bcast_S16384x1_S16384x512_0_1 main_v98
  let main_v100 : IVec S16384x512 1 := cmpi .eq main_v13 main_v99
  let main_cst_16 : FVec F S_ .f32 := constant S_ .f32 0x00000000#32
  fn_part5 (F := F) main_arg0 main_v5 main_v9 main_v12 main_v13 main_v16 main_v29 main_v30 main_v33 main_v43 main_v55 main_v59 main_v66 main_v67 main_v70 main_v90 main_v97 main_v100 main_cst_16

def fn_part3 {F : FTy → Type} [FloatOps F] (main_arg0 : FVec F S16x64x32x32 .f32) (main_v5 : FVec F S512x512 .f32) (main_v9 : FVec F S512x512 .f32) (main_v12 : FVec F S16384x512 .f32) (main_v13 : IVec S16384x512 32) (main_v16 : FVec F S16384x512 .f32) (main_v29 : FVec F S16384 .f32) (main_v30 : FVec F S16384x512 .f32) (main_v33 : FVec F S16384 .f32) (main_v43 : FVec F S16384x512 .f32) (main_v50 : IVec S16384 32) (main_v55 : FVec F S16384x512 .f32) (main_v59 : FVec F S16384 .f32) (main_cst_9 : FVec F S_ .f32) : IVec S_ 1 :=
  let main_v60 : FVec F S16384 .f32 := broadcastInDim S16384 ![] bcast_S_S16384 main_cst_9
  let main_v61 : FVec F S16384 .f32 := mulf main_v59 main_v59
  let main_cst_10 : FVec F S_ .f32 := constant S_ .f32 0x00000000#32
  let main_v62 : FVec F S16384 .f32 := broadcastInDim S16384 ![] bcast_S_S16384 main_cst_10
  let main_v63 : FVec F S16384 .f32 := addf main_v62 main_v61
  let main_cst_11 : FVec F S_ .f32 := constant S_ .f32 0x3F800000#32
  let main_v64 : FVec F S16384 .f32 := broadcastInDim S16384 ![] bcast_S_S16384 main_cst_11
  let main_v65 : FVec F S16384 .f32 := subf main_v64 main_v63
  let main_v66 : FVec F S16384 .f32 := Host.sqrt main_v65
  let main_v67 : FVec F S16384x512 .f32 := fn_take (F := F) main_v9 main_v50
  let main_v68 : IVec S16384x1 32 := broadcastInDim S16384x1 ![0] bcast_S16384_S16384x1_0 main_v50
  let main_v69 : FVec F S16384x1 .f32 := fn_take_along_axis (F := F) main_v12 main_v68
  let main_v70 : FVec F S16384 .f32 := shapeCast S16384 main_v69 shapeCasts_S16384x1_S16384
  let main_v71 : FVec F S16384 .f32 := Host.divf main_v33 main_v29
  let main_v72 : FVec F S16384 .f32 := mulf main_v59 main_v71
  let main_v73 : FVec F S16384 .f32 := subf main_v70 main_v72
  let main_v74 : FVec F S16384 .f32 := Host.divf main_v73 main_v66
  let main_v75 : FVec F S16384 .f32 := Host.divf main_v74 main_v66
  let main_v76 : FVec F S16384 .f32 := mulf main_v59 main_v75
  let main_v77 : FVec F S16384 .f32 := subf main_v71 main_v76
  let main_v78 : FVec F S16384 .f32 := Host.divf main_v77 main_v29
  let main_v79 : FVec F S16384x1 .f32 := broadcastInDim S16384x1 ![0] bcast_S16384_S16384x1_0 main_v78
  let main_v80 : FVec F S16384x512 .f32 := broadcastInDim S16384x512 ![0, 1] bcast_S16384x1_S16384x512_0_1 main_v79
  let main_v81 : FVec F S16384x512 .f32 := mulf main_v80 main_v30
  fn_part4 (F := F) main_arg0 main_v5 main_v9 main_v12 main_v13 main_v16 main_v29 main_v30 main_v33 main_v43 main_v55 main_v59 main_v66 main_v67 main_v70 main_v75 main_v81

def fn_part2 {F : FTy → Type} [FloatOps F] (main_arg0 : FVec F S16x64x32x32 .f32) (main_v5 : FVec F S512x512 .f32) (main_v9 : FVec F S512x512 .f32) (main_v12 : FVec F S16384x512 .f32) (main_v13 : IVec S16384x512 32) (main_v16 : FVec F S16384x512 .f32) (main_v28 : FVec F S16384x512 .f32) (main_v29 : FVec F S16384 .f32) (main_v30 : FVec F S16384x512 .f32) (main_v33 : FVec F S16384 .f32) (main_v40 : FVec F S16384x512 .f32) : IVec S_ 1 :=
  let main_v41 : FVec F S16384x512 .f32 := subf main_v12 main_v40
  let main_v42 : FVec F S16384x512 .f32 := mulf main_v41 main_v28
  let main_v43 : FVec F S16384x512 .f32 := Host.absf main_v42
  let main_cst_5 : FVec F S_ .f32 := constant S_ .f32 0xFF800000#32
  let main_v44 : FVec F S16384 .f32 := (fun x v => Host.reduce FloatOps.maximumf x v reducesTo_S16384x512_S16384_d1 h_S_) main_v43 main_cst_5
  let main_v45 : FVec F S16384x1 .f32 := broadcastInDim S16384x1 ![0] bcast_S16384_S16384x1_0 main_v44
  let main_v46 : FVec F S16384x512 .f32 := broadcastInDim S16384x512 ![0, 1] bcast_S16384x1_S16384x512_0_1 main_v45
  let main_v47 : IVec S16384x512 1 := cmpf .oeq main_v43 main_v46
  let main_c_6 : IVec S_ 32 := constantI S_ 32 512#32
  let main_v48 : IVec S16384x512 32 := broadcastInDim S16384x512 ![] bcast_S_S16384x512 main_c_6
  let main_v49 : IVec S16384x512 32 := select main_v47 main_v13 main_v48
  let main_c_7 : IVec S_ 32 := constantI S_ 32 2147483647#32
  let main_v50 : IVec S16384 32 := (fun x v => Host.reduce IntOp.minsi x v reducesTo_S16384x512_S16384_d1 h_S_) main_v49 main_c_7
  let main_v51 : IVec S16384x1 32 := broadcastInDim S16384x1 ![0] bcast_S16384_S16384x1_0 main_v50
  let main_v52 : IVec S16384x512 32 := broadcastInDim S16384x512 ![0, 1] bcast_S16384x1_S16384x512_0_1 main_v51
  let main_v53 : IVec S16384x512 1 := cmpi .eq main_v13 main_v52
  let main_cst_8 : FVec F S_ .f32 := constant S_ .f32 0x00000000#32
  let main_v54 : FVec F S16384x512 .f32 := broadcastInDim S16384x512 ![] bcast_S_S16384x512 main_cst_8
  let main_v55 : FVec F S16384x512 .f32 := select main_v53 main_v54 main_v28
  let main_v56 : IVec S16384x1 32 := broadcastInDim S16384x1 ![0] bcast_S16384_S16384x1_0 main_v50
  let main_v57 : FVec F S16384x1 .f32 := fn_take_along_axis (F := F) main_v30 main_v56
  let main_v58 : FVec F S16384 .f32 := shapeCast S16384 main_v57 shapeCasts_S16384x1_S16384
  let main_v59 : FVec F S16384 .f32 := Host.divf main_v58 main_v29
  let main_cst_9 : FVec F S_ .f32 := constant S_ .f32 0x3F800000#32
  fn_part3 (F := F) main_arg0 main_v5 main_v9 main_v12 main_v13 main_v16 main_v29 main_v30 main_v33 main_v43 main_v50 main_v55 main_v59 main_cst_9

def fn_part1 {F : FTy → Type} [FloatOps F] (main_arg0 : FVec F S16x64x32x32 .f32) (main_v5 : FVec F S512x512 .f32) (main_v9 : FVec F S512x512 .f32) (main_v12 : FVec F S16384x512 .f32) (main_v13 : IVec S16384x512 32) (main_v14 : FVec F S16384x512 .f32) (main_v16 : FVec F S16384x512 .f32) (main_v20 : IVec S16384x512 1) (main_c : IVec S_ 32) : IVec S_ 1 :=
  let main_v21 : IVec S16384x512 32 := broadcastInDim S16384x512 ![] bcast_S_S16384x512 main_c
  let main_v22 : IVec S16384x512 32 := select main_v20 main_v13 main_v21
  let main_c_1 : IVec S_ 32 := constantI S_ 32 2147483647#32
  let main_v23 : IVec S16384 32 := (fun x v => Host.reduce IntOp.minsi x v reducesTo_S16384x512_S16384_d1 h_S_) main_v22 main_c_1
  let main_v24 : IVec S16384x1 32 := broadcastInDim S16384x1 ![0] bcast_S16384_S16384x1_0 main_v23
  let main_v25 : IVec S16384x512 32 := broadcastInDim S16384x512 ![0, 1] bcast_S16384x1_S16384x512_0_1 main_v24
  let main_v26 : IVec S16384x512 1 := cmpi .eq main_v13 main_v25
  let main_cst_2 : FVec F S_ .f32 := constant S_ .f32 0x00000000#32
  let main_v27 : FVec F S16384x512 .f32 := broadcastInDim S16384x512 ![] bcast_S_S16384x512 main_cst_2
  let main_v28 : FVec F S16384x512 .f32 := select main_v26 main_v27 main_v14
  let main_cst_3 : FVec F S_ .f32 := constant S_ .f32 0x3F800000#32
  let main_v29 : FVec F S16384 .f32 := broadcastInDim S16384 ![] bcast_S_S16384 main_cst_3
  let main_v30 : FVec F S16384x512 .f32 := fn_take (F := F) main_v9 main_v23
  let main_v31 : IVec S16384x1 32 := broadcastInDim S16384x1 ![0] bcast_S16384_S16384x1_0 main_v23
  let main_v32 : FVec F S16384x1 .f32 := fn_take_along_axis (F := F) main_v12 main_v31
  let main_v33 : FVec F S16384 .f32 := shapeCast S16384 main_v32 shapeCasts_S16384x1_S16384
  let main_v34 : FVec F S16384 .f32 := Host.divf main_v33 main_v29
  let main_v35 : FVec F S16384 .f32 := Host.divf main_v34 main_v29
  let main_v36 : FVec F S16384x1 .f32 := broadcastInDim S16384x1 ![0] bcast_S16384_S16384x1_0 main_v35
  let main_v37 : FVec F S16384x512 .f32 := broadcastInDim S16384x512 ![0, 1] bcast_S16384x1_S16384x512_0_1 main_v36
  let main_v38 : FVec F S16384x512 .f32 := mulf main_v37 main_v30
  let main_cst_4 : FVec F S_ .f32 := constant S_ .f32 0x00000000#32
  let main_v39 : FVec F S16384x512 .f32 := broadcastInDim S16384x512 ![] bcast_S_S16384x512 main_cst_4
  let main_v40 : FVec F S16384x512 .f32 := addf main_v39 main_v38
  fn_part2 (F := F) main_arg0 main_v5 main_v9 main_v12 main_v13 main_v16 main_v28 main_v29 main_v30 main_v33 main_v40

def fn {F : FTy → Type} [FloatOps F] (main_arg0 : FVec F S16x64x32x32 .f32) (main_arg1 : FVec F S64x512 .f32) : IVec S_ 1 :=
  let main_v0 : FVec F S512 .f32 := fn_norm (F := F) main_arg1
  let main_v1 : FVec F S1x512 .f32 := broadcastInDim S1x512 ![1] bcast_S512_S1x512_1 main_v0
  let main_v2 : FVec F S64x512 .f32 := broadcastInDim S64x512 ![0, 1] bcast_S1x512_S64x512_0_1 main_v1
  let main_v3 : FVec F S64x512 .f32 := Host.divf main_arg1 main_v2
  let main_v4 : FVec F S512x64 .f32 := (transpose S512x64 [1, 0] · transposes_S64x512_S512x64_1_0) main_v3
  let main_v5 : FVec F S512x512 .f32 := (fun l r => Host.dotGeneral dot_S512x64_S64x512_S512x512_1_0_0_1_n_n none l r) main_v4 main_v3
  let main_v6 : FVec F S16x32x32x64 .f32 := (transpose S16x32x32x64 [0, 2, 3, 1] · transposes_S16x64x32x32_S16x32x32x64_0_2_3_1) main_arg0
  let main_v7 : FVec F S64x16384 .f32 := shapeCast S64x16384 main_v6 shapeCasts_S16x32x32x64_S64x16384
  let main_v8 : FVec F S512x64 .f32 := (transpose S512x64 [1, 0] · transposes_S64x512_S512x64_1_0) main_v3
  let main_v9 : FVec F S512x512 .f32 := (fun l r => Host.dotGeneral dot_S512x64_S64x512_S512x512_1_0_0_1_n_n none l r) main_v8 main_v3
  let main_v10 : FVec F S512x64 .f32 := (transpose S512x64 [1, 0] · transposes_S64x512_S512x64_1_0) main_v3
  let main_v11 : FVec F S512x16384 .f32 := (fun l r => Host.dotGeneral dot_S512x64_S64x16384_S512x16384_1_0_0_1_n_n none l r) main_v10 main_v7
  let main_v12 : FVec F S16384x512 .f32 := (transpose S16384x512 [1, 0] · transposes_S512x16384_S16384x512_1_0) main_v11
  let main_v13 : IVec S16384x512 32 := iotaInDim S16384x512 32 1
  let main_cst : FVec F S_ .f32 := constant S_ .f32 0x3F800000#32
  let main_v14 : FVec F S16384x512 .f32 := broadcastInDim S16384x512 ![] bcast_S_S16384x512 main_cst
  let main_v15 : FVec F S16384x512 .f32 := mulf main_v12 main_v14
  let main_v16 : FVec F S16384x512 .f32 := Host.absf main_v15
  let main_cst_0 : FVec F S_ .f32 := constant S_ .f32 0xFF800000#32
  let main_v17 : FVec F S16384 .f32 := (fun x v => Host.reduce FloatOps.maximumf x v reducesTo_S16384x512_S16384_d1 h_S_) main_v16 main_cst_0
  let main_v18 : FVec F S16384x1 .f32 := broadcastInDim S16384x1 ![0] bcast_S16384_S16384x1_0 main_v17
  let main_v19 : FVec F S16384x512 .f32 := broadcastInDim S16384x512 ![0, 1] bcast_S16384x1_S16384x512_0_1 main_v18
  let main_v20 : IVec S16384x512 1 := cmpf .oeq main_v16 main_v19
  let main_c : IVec S_ 32 := constantI S_ 32 512#32
  fn_part1 (F := F) main_arg0 main_v5 main_v9 main_v12 main_v13 main_v14 main_v16 main_v20 main_c
-- ==== Kernel.lean ====
abbrev S16x64x32x32 : Shape := ⟨4, ![16, 64, 32, 32]⟩
abbrev S64x512 : Shape := ⟨2, ![64, 512]⟩
abbrev S16x32x32x64 : Shape := ⟨4, ![16, 32, 32, 64]⟩
abbrev S64x16384 : Shape := ⟨2, ![64, 16384]⟩
abbrev S_ : Shape := ⟨0, ![]⟩
abbrev S512 : Shape := ⟨1, ![512]⟩
abbrev S1x512 : Shape := ⟨2, ![1, 512]⟩
abbrev S512x64 : Shape := ⟨2, ![512, 64]⟩
abbrev S512x16384 : Shape := ⟨2, ![512, 16384]⟩
abbrev S1x1 : Shape := ⟨2, ![1, 1]⟩
abbrev S64x2048 : Shape := ⟨2, ![64, 2048]⟩
abbrev S512x2048 : Shape := ⟨2, ![512, 2048]⟩
abbrev S512x512 : Shape := ⟨2, ![512, 512]⟩
abbrev S1x2048 : Shape := ⟨2, ![1, 2048]⟩
abbrev S2048 : Shape := ⟨1, ![2048]⟩
abbrev S64 : Shape := ⟨1, ![64]⟩
abbrev S64x1 : Shape := ⟨2, ![64, 1]⟩
abbrev S1 : Shape := ⟨1, ![1]⟩

abbrev nBuf : Space → Nat
  | .hbm => 22
  | .vmem => 9
  | .smem => 0
  | _ => 0

abbrev bufTy : (tb : Table) → Fin (tcTables nBuf tb) → BufTy
  | .hbm, ⟨0, _⟩ => ⟨S16x64x32x32, .f32⟩
  | .hbm, ⟨1, _⟩ => ⟨S64x512, .f32⟩
  | .hbm, ⟨2, _⟩ => ⟨S16x32x32x64, .f32⟩
  | .hbm, ⟨3, _⟩ => ⟨S64x16384, .f32⟩
  | .hbm, ⟨4, _⟩ => ⟨S64x512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S64x512, .f32⟩
  | .hbm, ⟨10, _⟩ => ⟨S64x512, .f32⟩
  | .hbm, ⟨11, _⟩ => ⟨S512x64, .f32⟩
  | .hbm, ⟨12, _⟩ => ⟨S512x16384, .f32⟩
  | .hbm, ⟨13, _⟩ => ⟨S64x16384, .f32⟩
  | .hbm, ⟨14, _⟩ => ⟨S1x1, .f32⟩
  | .hbm, ⟨15, _⟩ => ⟨S16x32x32x64, .f32⟩
  | .hbm, ⟨16, _⟩ => ⟨S16x64x32x32, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S64x2048, .f32⟩
  | .local _ .vmem, ⟨1, _⟩ => ⟨S64x2048, .f32⟩
  | .local _ .vmem, ⟨2, _⟩ => ⟨S64x512, .f32⟩
  | .local _ .vmem, ⟨3, _⟩ => ⟨S512x64, .f32⟩
  | .local _ .vmem, ⟨4, _⟩ => ⟨S512x2048, .f32⟩
  | .local _ .vmem, ⟨5, _⟩ => ⟨S512x2048, .f32⟩
  | .local _ .vmem, ⟨6, _⟩ => ⟨S64x2048, .f32⟩
  | .local _ .vmem, ⟨7, _⟩ => ⟨S64x2048, .f32⟩
  | .local _ .vmem, ⟨8, _⟩ => ⟨S1x1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "penalty" => some ⊤
  | _ => none
-- ==== ReferenceIdeal.lean ====
abbrev S16x64x32x32 : Shape := ⟨4, ![16, 64, 32, 32]⟩
abbrev S64x512 : Shape := ⟨2, ![64, 512]⟩
abbrev S16x32x32x64 : Shape := ⟨4, ![16, 32, 32, 64]⟩
abbrev S_ : Shape := ⟨0, ![]⟩
abbrev S512 : Shape := ⟨1, ![512]⟩
abbrev S1x512 : Shape := ⟨2, ![1, 512]⟩
abbrev S64x16384 : Shape := ⟨2, ![64, 16384]⟩
abbrev S512x64 : Shape := ⟨2, ![512, 64]⟩
abbrev S512x512 : Shape := ⟨2, ![512, 512]⟩
abbrev S512x16384 : Shape := ⟨2, ![512, 16384]⟩
abbrev S16384x512 : Shape := ⟨2, ![16384, 512]⟩
abbrev S16384 : Shape := ⟨1, ![16384]⟩
abbrev S16384x1 : Shape := ⟨2, ![16384, 1]⟩
abbrev S16384x1x1 : Shape := ⟨3, ![16384, 1, 1]⟩

abbrev nBuf : Space → Nat
  | .hbm => 607
  | .vmem => 0
  | .smem => 0
  | _ => 0

abbrev hbmTy0_0 (i : Nat) : BufTy := match i % 128 with
  | 0 => ⟨S16x64x32x32, .f32⟩
  | 1 => ⟨S64x512, .f32⟩
  | 2 => ⟨S16x32x32x64, .f32⟩
  | 3 => ⟨S64x512, .f32⟩
  | 4 => ⟨S_, .f32⟩
  | 5 => ⟨S512, .f32⟩
  | 6 => ⟨S512, .f32⟩
  | 7 => ⟨S1x512, .f32⟩
  | 8 => ⟨S64x512, .f32⟩
  | 9 => ⟨S64x512, .f32⟩
  | 10 => ⟨S64x16384, .f32⟩
  | 11 => ⟨S512x64, .f32⟩
  | 12 => ⟨S512x512, .f32⟩
  | 13 => ⟨S512x64, .f32⟩
  | 14 => ⟨S512x16384, .f32⟩
  | 15 => ⟨S16384x512, .f32⟩
  | 16 => ⟨S16384x512, .i32⟩
  | 17 => ⟨S_, .f32⟩
  | 18 => ⟨S16384x512, .f32⟩
  | 19 => ⟨S16384x512, .f32⟩
  | 20 => ⟨S16384x512, .f32⟩
  | 21 => ⟨S_, .f32⟩
  | 22 => ⟨S16384, .f32⟩
  | 23 => ⟨S16384x1, .f32⟩
  | 24 => ⟨S16384x512, .f32⟩
  | 25 => ⟨S16384x512, .i1⟩
  | 26 => ⟨S_, .i32⟩
  | 27 => ⟨S16384x512, .i32⟩
  | 28 => ⟨S16384x512, .i32⟩
  | 29 => ⟨S_, .i32⟩
  | 30 => ⟨S16384, .i32⟩
  | 31 => ⟨S16384x1, .i32⟩
  | 32 => ⟨S16384x512, .i32⟩
  | 33 => ⟨S16384x512, .i1⟩
  | 34 => ⟨S_, .f32⟩
  | 35 => ⟨S16384x512, .f32⟩
  | 36 => ⟨S16384x512, .f32⟩
  | 37 => ⟨S_, .f32⟩
  | 38 => ⟨S16384, .f32⟩
  | 39 => ⟨S16384x1, .i32⟩
  | 40 => ⟨S16384x512, .f32⟩
  | 41 => ⟨S16384x1, .i32⟩
  | 42 => ⟨S_, .i32⟩
  | 43 => ⟨S16384x1, .i32⟩
  | 44 => ⟨S16384x1, .i1⟩
  | 45 => ⟨S_, .i32⟩
  | 46 => ⟨S16384x1, .i32⟩
  | 47 => ⟨S16384x1, .i32⟩
  | 48 => ⟨S16384x1, .i32⟩
  | 49 => ⟨S16384x1x1, .i32⟩
  | 50 => ⟨S16384x1, .f32⟩
  | 51 => ⟨S16384, .f32⟩
  | 52 => ⟨S16384, .f32⟩
  | 53 => ⟨S16384, .f32⟩
  | 54 => ⟨S16384x1, .f32⟩
  | 55 => ⟨S16384x512, .f32⟩
  | 56 => ⟨S16384x512, .f32⟩
  | 57 => ⟨S_, .f32⟩
  | 58 => ⟨S16384x512, .f32⟩
  | 59 => ⟨S16384x512, .f32⟩
  | 60 => ⟨S16384x512, .f32⟩
  | 61 => ⟨S16384x512, .f32⟩
  | 62 => ⟨S16384x512, .f32⟩
  | 63 => ⟨S_, .f32⟩
  | 64 => ⟨S16384, .f32⟩
  | 65 => ⟨S16384x1, .f32⟩
  | 66 => ⟨S16384x512, .f32⟩
  | 67 => ⟨S16384x512, .i1⟩
  | 68 => ⟨S_, .i32⟩
  | 69 => ⟨S16384x512, .i32⟩
  | 70 => ⟨S16384x512, .i32⟩
  | 71 => ⟨S_, .i32⟩
  | 72 => ⟨S16384, .i32⟩
  | 73 => ⟨S16384x1, .i32⟩
  | 74 => ⟨S16384x512, .i32⟩
  | 75 => ⟨S16384x512, .i1⟩
  | 76 => ⟨S_, .f32⟩
  | 77 => ⟨S16384x512, .f32⟩
  | 78 => ⟨S16384x512, .f32⟩
  | 79 => ⟨S16384x1, .i32⟩
  | 80 => ⟨S_, .i32⟩
  | 81 => ⟨S16384x1, .i32⟩
  | 82 => ⟨S16384x1, .i1⟩
  | 83 => ⟨S_, .i32⟩
  | 84 => ⟨S16384x1, .i32⟩
  | 85 => ⟨S16384x1, .i32⟩
  | 86 => ⟨S16384x1, .i32⟩
  | 87 => ⟨S16384x1x1, .i32⟩
  | 88 => ⟨S16384x1, .f32⟩
  | 89 => ⟨S16384, .f32⟩
  | 90 => ⟨S16384, .f32⟩
  | 91 => ⟨S_, .f32⟩
  | 92 => ⟨S16384, .f32⟩
  | 93 => ⟨S16384, .f32⟩
  | 94 => ⟨S_, .f32⟩
  | 95 => ⟨S16384, .f32⟩
  | 96 => ⟨S16384, .f32⟩
  | 97 => ⟨S_, .f32⟩
  | 98 => ⟨S16384, .f32⟩
  | 99 => ⟨S16384, .f32⟩
  | 100 => ⟨S16384, .f32⟩
  | 101 => ⟨S16384x1, .i32⟩
  | 102 => ⟨S16384x512, .f32⟩
  | 103 => ⟨S16384x1, .i32⟩
  | 104 => ⟨S_, .i32⟩
  | 105 => ⟨S16384x1, .i32⟩
  | 106 => ⟨S16384x1, .i1⟩
  | 107 => ⟨S_, .i32⟩
  | 108 => ⟨S16384x1, .i32⟩
  | 109 => ⟨S16384x1, .i32⟩
  | 110 => ⟨S16384x1, .i32⟩
  | 111 => ⟨S16384x1x1, .i32⟩
  | 112 => ⟨S16384x1, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384x1, .f32⟩
  | 123 => ⟨S16384x512, .f32⟩
  | 124 => ⟨S16384x512, .f32⟩
  | 125 => ⟨S_, .f32⟩
  | 126 => ⟨S16384x512, .f32⟩
  | 127 => ⟨S16384x512, .f32⟩
  | _ => ⟨S16x64x32x32, .f32⟩

abbrev hbmTy0_1 (i : Nat) : BufTy := match i % 128 with
  | 0 => ⟨S16384x1, .f32⟩
  | 1 => ⟨S16384x512, .f32⟩
  | 2 => ⟨S16384x512, .f32⟩
  | 3 => ⟨S16384x512, .f32⟩
  | 4 => ⟨S16384x512, .f32⟩
  | 5 => ⟨S16384x512, .f32⟩
  | 6 => ⟨S16384x512, .f32⟩
  | 7 => ⟨S_, .f32⟩
  | 8 => ⟨S16384, .f32⟩
  | 9 => ⟨S16384x1, .f32⟩
  | 10 => ⟨S16384x512, .f32⟩
  | 11 => ⟨S16384x512, .i1⟩
  | 12 => ⟨S_, .i32⟩
  | 13 => ⟨S16384x512, .i32⟩
  | 14 => ⟨S16384x512, .i32⟩
  | 15 => ⟨S_, .i32⟩
  | 16 => ⟨S16384, .i32⟩
  | 17 => ⟨S16384x1, .i32⟩
  | 18 => ⟨S16384x512, .i32⟩
  | 19 => ⟨S16384x512, .i1⟩
  | 20 => ⟨S_, .f32⟩
  | 21 => ⟨S16384x512, .f32⟩
  | 22 => ⟨S16384x512, .f32⟩
  | 23 => ⟨S16384x1, .i32⟩
  | 24 => ⟨S_, .i32⟩
  | 25 => ⟨S16384x1, .i32⟩
  | 26 => ⟨S16384x1, .i1⟩
  | 27 => ⟨S_, .i32⟩
  | 28 => ⟨S16384x1, .i32⟩
  | 29 => ⟨S16384x1, .i32⟩
  | 30 => ⟨S16384x1, .i32⟩
  | 31 => ⟨S16384x1x1, .i32⟩
  | 32 => ⟨S16384x1, .f32⟩
  | 33 => ⟨S16384, .f32⟩
  | 34 => ⟨S16384x1, .i32⟩
  | 35 => ⟨S_, .i32⟩
  | 36 => ⟨S16384x1, .i32⟩
  | 37 => ⟨S16384x1, .i1⟩
  | 38 => ⟨S_, .i32⟩
  | 39 => ⟨S16384x1, .i32⟩
  | 40 => ⟨S16384x1, .i32⟩
  | 41 => ⟨S16384x1, .i32⟩
  | 42 => ⟨S16384x1x1, .i32⟩
  | 43 => ⟨S16384x1, .f32⟩
  | 44 => ⟨S16384, .f32⟩
  | 45 => ⟨S16384, .f32⟩
  | 46 => ⟨S16384, .f32⟩
  | 47 => ⟨S16384, .f32⟩
  | 48 => ⟨S16384, .f32⟩
  | 49 => ⟨S_, .f32⟩
  | 50 => ⟨S16384, .f32⟩
  | 51 => ⟨S16384, .f32⟩
  | 52 => ⟨S_, .f32⟩
  | 53 => ⟨S16384, .f32⟩
  | 54 => ⟨S16384, .f32⟩
  | 55 => ⟨S16384, .f32⟩
  | 56 => ⟨S16384, .f32⟩
  | 57 => ⟨S_, .f32⟩
  | 58 => ⟨S16384, .f32⟩
  | 59 => ⟨S16384, .f32⟩
  | 60 => ⟨S16384, .f32⟩
  | 61 => ⟨S16384x1, .i32⟩
  | 62 => ⟨S16384x512, .f32⟩
  | 63 => ⟨S16384x1, .i32⟩
  | 64 => ⟨S_, .i32⟩
  | 65 => ⟨S16384x1, .i32⟩
  | 66 => ⟨S16384x1, .i1⟩
  | 67 => ⟨S_, .i32⟩
  | 68 => ⟨S16384x1, .i32⟩
  | 69 => ⟨S16384x1, .i32⟩
  | 70 => ⟨S16384x1, .i32⟩
  | 71 => ⟨S16384x1x1, .i32⟩
  | 72 => ⟨S16384x1, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384x1, .f32⟩
  | 93 => ⟨S16384x512, .f32⟩
  | 94 => ⟨S16384x512, .f32⟩
  | 95 => ⟨S_, .f32⟩
  | 96 => ⟨S16384x512, .f32⟩
  | 97 => ⟨S16384x512, .f32⟩
  | 98 => ⟨S16384x1, .f32⟩
  | 99 => ⟨S16384x512, .f32⟩
  | 100 => ⟨S16384x512, .f32⟩
  | 101 => ⟨S16384x512, .f32⟩
  | 102 => ⟨S16384x1, .f32⟩
  | 103 => ⟨S16384x512, .f32⟩
  | 104 => ⟨S16384x512, .f32⟩
  | 105 => ⟨S16384x512, .f32⟩
  | 106 => ⟨S16384x512, .f32⟩
  | 107 => ⟨S16384x512, .f32⟩
  | 108 => ⟨S16384x512, .f32⟩
  | 109 => ⟨S_, .f32⟩
  | 110 => ⟨S16384, .f32⟩
  | 111 => ⟨S16384x1, .f32⟩
  | 112 => ⟨S16384x512, .f32⟩
  | 113 => ⟨S16384x512, .i1⟩
  | 114 => ⟨S_, .i32⟩
  | 115 => ⟨S16384x512, .i32⟩
  | 116 => ⟨S16384x512, .i32⟩
  | 117 => ⟨S_, .i32⟩
  | 118 => ⟨S16384, .i32⟩
  | 119 => ⟨S16384x1, .i32⟩
  | 120 => ⟨S16384x512, .i32⟩
  | 121 => ⟨S16384x512, .i1⟩
  | 122 => ⟨S_, .f32⟩
  | 123 => ⟨S16384x512, .f32⟩
  | 124 => ⟨S16384x512, .f32⟩
  | 125 => ⟨S16384x1, .i32⟩
  | 126 => ⟨S_, .i32⟩
  | 127 => ⟨S16384x1, .i32⟩
  | _ => ⟨S16x64x32x32, .f32⟩

abbrev hbmTy0_2 (i : Nat) : BufTy := match i % 128 with
  | 0 => ⟨S16384x1, .i1⟩
  | 1 => ⟨S_, .i32⟩
  | 2 => ⟨S16384x1, .i32⟩
  | 3 => ⟨S16384x1, .i32⟩
  | 4 => ⟨S16384x1, .i32⟩
  | 5 => ⟨S16384x1x1, .i32⟩
  | 6 => ⟨S16384x1, .f32⟩
  | 7 => ⟨S16384, .f32⟩
  | 8 => ⟨S16384x1, .i32⟩
  | 9 => ⟨S_, .i32⟩
  | 10 => ⟨S16384x1, .i32⟩
  | 11 => ⟨S16384x1, .i1⟩
  | 12 => ⟨S_, .i32⟩
  | 13 => ⟨S16384x1, .i32⟩
  | 14 => ⟨S16384x1, .i32⟩
  | 15 => ⟨S16384x1, .i32⟩
  | 16 => ⟨S16384x1x1, .i32⟩
  | 17 => ⟨S16384x1, .f32⟩
  | 18 => ⟨S16384, .f32⟩
  | 19 => ⟨S16384x1, .i32⟩
  | 20 => ⟨S_, .i32⟩
  | 21 => ⟨S16384x1, .i32⟩
  | 22 => ⟨S16384x1, .i1⟩
  | 23 => ⟨S_, .i32⟩
  | 24 => ⟨S16384x1, .i32⟩
  | 25 => ⟨S16384x1, .i32⟩
  | 26 => ⟨S16384x1, .i32⟩
  | 27 => ⟨S16384x1x1, .i32⟩
  | 28 => ⟨S16384x1, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S16384, .f32⟩
  | 39 => ⟨S_, .f32⟩
  | 40 => ⟨S16384, .f32⟩
  | 41 => ⟨S16384, .f32⟩
  | 42 => ⟨S_, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S_, .f32⟩
  | 50 => ⟨S16384, .f32⟩
  | 51 => ⟨S16384, .f32⟩
  | 52 => ⟨S16384, .f32⟩
  | 53 => ⟨S16384x1, .i32⟩
  | 54 => ⟨S16384x512, .f32⟩
  | 55 => ⟨S16384x1, .i32⟩
  | 56 => ⟨S_, .i32⟩
  | 57 => ⟨S16384x1, .i32⟩
  | 58 => ⟨S16384x1, .i1⟩
  | 59 => ⟨S_, .i32⟩
  | 60 => ⟨S16384x1, .i32⟩
  | 61 => ⟨S16384x1, .i32⟩
  | 62 => ⟨S16384x1, .i32⟩
  | 63 => ⟨S16384x1x1, .i32⟩
  | 64 => ⟨S16384x1, .f32⟩
  | 65 => ⟨S16384, .f32⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S16384x1, .f32⟩
  | 99 => ⟨S16384x512, .f32⟩
  | 100 => ⟨S16384x512, .f32⟩
  | 101 => ⟨S_, .f32⟩
  | 102 => ⟨S16384x512, .f32⟩
  | 103 => ⟨S16384x512, .f32⟩
  | 104 => ⟨S16384x1, .f32⟩
  | 105 => ⟨S16384x512, .f32⟩
  | 106 => ⟨S16384x512, .f32⟩
  | 107 => ⟨S16384x512, .f32⟩
  | 108 => ⟨S16384x1, .f32⟩
  | 109 => ⟨S16384x512, .f32⟩
  | 110 => ⟨S16384x512, .f32⟩
  | 111 => ⟨S16384x512, .f32⟩
  | 112 => ⟨S16384x1, .f32⟩
  | 113 => ⟨S16384x512, .f32⟩
  | 114 => ⟨S16384x512, .f32⟩
  | 115 => ⟨S16384x512, .f32⟩
  | 116 => ⟨S16384x512, .f32⟩
  | 117 => ⟨S16384x512, .f32⟩
  | 118 => ⟨S16384x512, .f32⟩
  | 119 => ⟨S_, .f32⟩
  | 120 => ⟨S16384, .f32⟩
  | 121 => ⟨S16384x1, .f32⟩
  | 122 => ⟨S16384x512, .f32⟩
  | 123 => ⟨S16384x512, .i1⟩
  | 124 => ⟨S_, .i32⟩
  | 125 => ⟨S16384x512, .i32⟩
  | 126 => ⟨S16384x512, .i32⟩
  | 127 => ⟨S_, .i32⟩
  | _ => ⟨S16x64x32x32, .f32⟩

abbrev hbmTy0_3 (i : Nat) : BufTy := match i % 128 with
  | 0 => ⟨S16384, .i32⟩
  | 1 => ⟨S16384x1, .i32⟩
  | 2 => ⟨S16384x512, .i32⟩
  | 3 => ⟨S16384x512, .i1⟩
  | 4 => ⟨S_, .f32⟩
  | 5 => ⟨S16384x512, .f32⟩
  | 6 => ⟨S16384x512, .f32⟩
  | 7 => ⟨S16384x1, .i32⟩
  | 8 => ⟨S_, .i32⟩
  | 9 => ⟨S16384x1, .i32⟩
  | 10 => ⟨S16384x1, .i1⟩
  | 11 => ⟨S_, .i32⟩
  | 12 => ⟨S16384x1, .i32⟩
  | 13 => ⟨S16384x1, .i32⟩
  | 14 => ⟨S16384x1, .i32⟩
  | 15 => ⟨S16384x1x1, .i32⟩
  | 16 => ⟨S16384x1, .f32⟩
  | 17 => ⟨S16384, .f32⟩
  | 18 => ⟨S16384x1, .i32⟩
  | 19 => ⟨S_, .i32⟩
  | 20 => ⟨S16384x1, .i32⟩
  | 21 => ⟨S16384x1, .i1⟩
  | 22 => ⟨S_, .i32⟩
  | 23 => ⟨S16384x1, .i32⟩
  | 24 => ⟨S16384x1, .i32⟩
  | 25 => ⟨S16384x1, .i32⟩
  | 26 => ⟨S16384x1x1, .i32⟩
  | 27 => ⟨S16384x1, .f32⟩
  | 28 => ⟨S16384, .f32⟩
  | 29 => ⟨S16384x1, .i32⟩
  | 30 => ⟨S_, .i32⟩
  | 31 => ⟨S16384x1, .i32⟩
  | 32 => ⟨S16384x1, .i1⟩
  | 33 => ⟨S_, .i32⟩
  | 34 => ⟨S16384x1, .i32⟩
  | 35 => ⟨S16384x1, .i32⟩
  | 36 => ⟨S16384x1, .i32⟩
  | 37 => ⟨S16384x1x1, .i32⟩
  | 38 => ⟨S16384x1, .f32⟩
  | 39 => ⟨S16384, .f32⟩
  | 40 => ⟨S16384x1, .i32⟩
  | 41 => ⟨S_, .i32⟩
  | 42 => ⟨S16384x1, .i32⟩
  | 43 => ⟨S16384x1, .i1⟩
  | 44 => ⟨S_, .i32⟩
  | 45 => ⟨S16384x1, .i32⟩
  | 46 => ⟨S16384x1, .i32⟩
  | 47 => ⟨S16384x1, .i32⟩
  | 48 => ⟨S16384x1x1, .i32⟩
  | 49 => ⟨S16384x1, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S_, .f32⟩
  | 68 => ⟨S16384, .f32⟩
  | 69 => ⟨S16384, .f32⟩
  | 70 => ⟨S_, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S_, .f32⟩
  | 80 => ⟨S16384, .f32⟩
  | 81 => ⟨S16384, .f32⟩
  | 82 => ⟨S16384, .f32⟩
  | 83 => ⟨S16384x1, .i32⟩
  | 84 => ⟨S16384x512, .f32⟩
  | 85 => ⟨S16384x1, .i32⟩
  | 86 => ⟨S_, .i32⟩
  | 87 => ⟨S16384x1, .i32⟩
  | 88 => ⟨S16384x1, .i1⟩
  | 89 => ⟨S_, .i32⟩
  | 90 => ⟨S16384x1, .i32⟩
  | 91 => ⟨S16384x1, .i32⟩
  | 92 => ⟨S16384x1, .i32⟩
  | 93 => ⟨S16384x1x1, .i32⟩
  | 94 => ⟨S16384x1, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S16384, .f32⟩
  | 123 => ⟨S16384, .f32⟩
  | 124 => ⟨S16384, .f32⟩
  | 125 => ⟨S16384, .f32⟩
  | 126 => ⟨S16384, .f32⟩
  | 127 => ⟨S16384, .f32⟩
  | _ => ⟨S16x64x32x32, .f32⟩

abbrev hbmTy0_4 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384x1, .f32⟩
  | 19 => ⟨S16384x512, .f32⟩
  | 20 => ⟨S16384x512, .f32⟩
  | 21 => ⟨S_, .f32⟩
  | 22 => ⟨S16384x512, .f32⟩
  | 23 => ⟨S16384x512, .f32⟩
  | 24 => ⟨S16384x1, .f32⟩
  | 25 => ⟨S16384x512, .f32⟩
  | 26 => ⟨S16384x512, .f32⟩
  | 27 => ⟨S16384x512, .f32⟩
  | 28 => ⟨S16384x1, .f32⟩
  | 29 => ⟨S16384x512, .f32⟩
  | 30 => ⟨S16384x512, .f32⟩
  | 31 => ⟨S16384x512, .f32⟩
  | 32 => ⟨S16384x1, .f32⟩
  | 33 => ⟨S16384x512, .f32⟩
  | 34 => ⟨S16384x512, .f32⟩
  | 35 => ⟨S16384x512, .f32⟩
  | 36 => ⟨S16384x1, .f32⟩
  | 37 => ⟨S16384x512, .f32⟩
  | 38 => ⟨S16384x512, .f32⟩
  | 39 => ⟨S16384x512, .f32⟩
  | 40 => ⟨S16384x512, .f32⟩
  | 41 => ⟨S_, .f32⟩
  | 42 => ⟨S16384x512, .f32⟩
  | 43 => ⟨S16384x512, .i32⟩
  | 44 => ⟨S16384x1, .i32⟩
  | 45 => ⟨S16384x512, .i32⟩
  | 46 => ⟨S16384x512, .i1⟩
  | 47 => ⟨S16384x1, .f32⟩
  | 48 => ⟨S16384x512, .f32⟩
  | 49 => ⟨S16384x512, .f32⟩
  | 50 => ⟨S16384x1, .i32⟩
  | 51 => ⟨S16384x512, .i32⟩
  | 52 => ⟨S16384x512, .i1⟩
  | 53 => ⟨S16384x1, .f32⟩
  | 54 => ⟨S16384x512, .f32⟩
  | 55 => ⟨S16384x512, .f32⟩
  | 56 => ⟨S16384x1, .i32⟩
  | 57 => ⟨S16384x512, .i32⟩
  | 58 => ⟨S16384x512, .i1⟩
  | 59 => ⟨S16384x1, .f32⟩
  | 60 => ⟨S16384x512, .f32⟩
  | 61 => ⟨S16384x512, .f32⟩
  | 62 => ⟨S16384x1, .i32⟩
  | 63 => ⟨S16384x512, .i32⟩
  | 64 => ⟨S16384x512, .i1⟩
  | 65 => ⟨S16384x1, .f32⟩
  | 66 => ⟨S16384x512, .f32⟩
  | 67 => ⟨S16384x512, .f32⟩
  | 68 => ⟨S16384x1, .i32⟩
  | 69 => ⟨S16384x512, .i32⟩
  | 70 => ⟨S16384x512, .i1⟩
  | 71 => ⟨S16384x1, .f32⟩
  | 72 => ⟨S16384x512, .f32⟩
  | 73 => ⟨S16384x512, .f32⟩
  | 74 => ⟨S512x16384, .f32⟩
  | 75 => ⟨S64x16384, .f32⟩
  | 76 => ⟨S16x32x32x64, .f32⟩
  | 77 => ⟨S16x32x32x64, .f32⟩
  | 78 => ⟨S16x32x32x64, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S16x32x32x64, .f32⟩
  | 86 => ⟨S16x32x32x64, .f32⟩
  | 87 => ⟨S_, .f32⟩
  | 88 => ⟨S_, .f32⟩
  | 89 => ⟨S_, .f32⟩
  | 90 => ⟨S_, .f32⟩
  | 91 => ⟨S_, .f32⟩
  | 92 => ⟨S16x32x32x64, .f32⟩
  | 93 => ⟨S16x32x32x64, .f32⟩
  | 94 => ⟨S16x64x32x32, .f32⟩
  | _ => ⟨S16x64x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x64x32x32, .f32⟩

abbrev bufTy : (tb : Table) → Fin (tcTables nBuf tb) → BufTy
  | .hbm, ⟨i, _⟩ => hbmTy i
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_call1_v0 : Ref sig .tc := ⟨.hbm, 39, rfl⟩
abbrev main_v28 : Ref sig .tc := ⟨.hbm, 40, rfl⟩
abbrev main_v29 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_6 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_9 : Ref sig .tc := ⟨.hbm, 91, rfl⟩
abbrev main_v58 : Ref sig .tc := ⟨.hbm, 92, rfl⟩
abbrev main_v59 : Ref sig .tc := ⟨.hbm, 93, rfl⟩
abbrev main_cst_10 : Ref sig .tc := ⟨.hbm, 94, rfl⟩
abbrev main_v60 : Ref sig .tc := ⟨.hbm, 95, rfl⟩
abbrev main_v61 : Ref sig .tc := ⟨.hbm, 96, rfl⟩
abbrev main_cst_11 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call4_v0 : Ref sig .tc := ⟨.hbm, 101, rfl⟩
abbrev main_v65 : Ref sig .tc := ⟨.hbm, 102, rfl⟩
abbrev main_v66 : Ref sig .tc := ⟨.hbm, 103, rfl⟩
abbrev main_call5_c : Ref sig .tc := ⟨.hbm, 104, rfl⟩
abbrev main_call5_v0 : Ref sig .tc := ⟨.hbm, 105, rfl⟩
abbrev main_call5_v1 : Ref sig .tc := ⟨.hbm, 106, rfl⟩
abbrev main_call5_c_0 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_v5 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_12 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_13 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_c_14 : Ref sig .tc := ⟨.hbm, 140, rfl⟩
abbrev main_v93 : Ref sig .tc := ⟨.hbm, 141, rfl⟩
abbrev main_v94 : Ref sig .tc := ⟨.hbm, 142, rfl⟩
abbrev main_c_15 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_16 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_call6_c : Ref sig .tc := ⟨.hbm, 152, rfl⟩
abbrev main_call6_v0 : Ref sig .tc := ⟨.hbm, 153, rfl⟩
abbrev main_call6_v1 : Ref sig .tc := ⟨.hbm, 154, rfl⟩
abbrev main_call6_c_0 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_call6_v5 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_call7_c : Ref sig .tc := ⟨.hbm, 163, rfl⟩
abbrev main_call7_v0 : Ref sig .tc := ⟨.hbm, 164, rfl⟩
abbrev main_call7_v1 : Ref sig .tc := ⟨.hbm, 165, rfl⟩
abbrev main_call7_c_0 : Ref sig .tc := ⟨.hbm, 166, rfl⟩
abbrev main_call7_v2 : Ref sig .tc := ⟨.hbm, 167, rfl⟩
abbrev main_call7_v3 : Ref sig .tc := ⟨.hbm, 168, rfl⟩
abbrev main_call7_v4 : Ref sig .tc := ⟨.hbm, 169, rfl⟩
abbrev main_call7_v5 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_cst_17 : Ref sig .tc := ⟨.hbm, 177, rfl⟩
abbrev main_v111 : Ref sig .tc := ⟨.hbm, 178, rfl⟩
abbrev main_v112 : Ref sig .tc := ⟨.hbm, 179, rfl⟩
abbrev main_cst_18 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_cst_19 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_call8_v0 : Ref sig .tc := ⟨.hbm, 189, rfl⟩
abbrev main_v120 : Ref sig .tc := ⟨.hbm, 190, rfl⟩
abbrev main_v121 : Ref sig .tc := ⟨.hbm, 191, rfl⟩
abbrev main_call9_c : Ref sig .tc := ⟨.hbm, 192, rfl⟩
abbrev main_call9_v0 : Ref sig .tc := ⟨.hbm, 193, rfl⟩
abbrev main_call9_v1 : Ref sig .tc := ⟨.hbm, 194, rfl⟩
abbrev main_call9_c_0 : Ref sig .tc := ⟨.hbm, 195, rfl⟩
abbrev main_call9_v2 : Ref sig .tc := ⟨.hbm, 196, rfl⟩
abbrev main_call9_v3 : Ref sig .tc := ⟨.hbm, 197, rfl⟩
abbrev main_call9_v4 : Ref sig .tc := ⟨.hbm, 198, rfl⟩
abbrev main_call9_v5 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_cst_20 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_cst_21 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_c_22 : Ref sig .tc := ⟨.hbm, 242, rfl⟩
abbrev main_v162 : Ref sig .tc := ⟨.hbm, 243, rfl⟩
abbrev main_v163 : Ref sig .tc := ⟨.hbm, 244, rfl⟩
abbrev main_c_23 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_cst_24 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_call10_c : Ref sig .tc := ⟨.hbm, 254, rfl⟩
abbrev main_call10_v0 : Ref sig .tc := ⟨.hbm, 255, rfl⟩
abbrev main_call10_v1 : Ref sig .tc := ⟨.hbm, 256, rfl⟩
abbrev main_call10_c_0 : Ref sig .tc := ⟨.hbm, 257, rfl⟩
abbrev main_call10_v2 : Ref sig .tc := ⟨.hbm, 258, rfl⟩
abbrev main_call10_v3 : Ref sig .tc := ⟨.hbm, 259, rfl⟩
abbrev main_call10_v4 : Ref sig .tc := ⟨.hbm, 260, rfl⟩
abbrev main_call10_v5 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_call11_c : Ref sig .tc := ⟨.hbm, 265, rfl⟩
abbrev main_call11_v0 : Ref sig .tc := ⟨.hbm, 266, rfl⟩
abbrev main_call11_v1 : Ref sig .tc := ⟨.hbm, 267, rfl⟩
abbrev main_call11_c_0 : Ref sig .tc := ⟨.hbm, 268, rfl⟩
abbrev main_call11_v2 : Ref sig .tc := ⟨.hbm, 269, rfl⟩
abbrev main_call11_v3 : Ref sig .tc := ⟨.hbm, 270, rfl⟩
abbrev main_call11_v4 : Ref sig .tc := ⟨.hbm, 271, rfl⟩
abbrev main_call11_v5 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_call12_c : Ref sig .tc := ⟨.hbm, 276, rfl⟩
abbrev main_call12_v0 : Ref sig .tc := ⟨.hbm, 277, rfl⟩
abbrev main_call12_v1 : Ref sig .tc := ⟨.hbm, 278, rfl⟩
abbrev main_call12_c_0 : Ref sig .tc := ⟨.hbm, 279, rfl⟩
abbrev main_call12_v2 : Ref sig .tc := ⟨.hbm, 280, rfl⟩
abbrev main_call12_v3 : Ref sig .tc := ⟨.hbm, 281, rfl⟩
abbrev main_call12_v4 : Ref sig .tc := ⟨.hbm, 282, rfl⟩
abbrev main_call12_v5 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_cst_25 : Ref sig .tc := ⟨.hbm, 295, rfl⟩
abbrev main_v188 : Ref sig .tc := ⟨.hbm, 296, rfl⟩
abbrev main_v189 : Ref sig .tc := ⟨.hbm, 297, rfl⟩
abbrev main_cst_26 : Ref sig .tc := ⟨.hbm, 298, rfl⟩
abbrev main_v190 : Ref sig .tc := ⟨.hbm, 299, rfl⟩
abbrev main_v191 : Ref sig .tc := ⟨.hbm, 300, rfl⟩
abbrev main_v192 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩
abbrev main_cst_27 : Ref sig .tc := ⟨.hbm, 305, rfl⟩
abbrev main_v196 : Ref sig .tc := ⟨.hbm, 306, rfl⟩
abbrev main_v197 : Ref sig .tc := ⟨.hbm, 307, rfl⟩
abbrev main_v198 : Ref sig .tc := ⟨.hbm, 308, rfl⟩
abbrev main_call13_v0 : Ref sig .tc := ⟨.hbm, 309, rfl⟩
abbrev main_v199 : Ref sig .tc := ⟨.hbm, 310, rfl⟩
abbrev main_v200 : Ref sig .tc := ⟨.hbm, 311, rfl⟩
abbrev main_call14_c : Ref sig .tc := ⟨.hbm, 312, rfl⟩
abbrev main_call14_v0 : Ref sig .tc := ⟨.hbm, 313, rfl⟩
abbrev main_call14_v1 : Ref sig .tc := ⟨.hbm, 314, rfl⟩
abbrev main_call14_c_0 : Ref sig .tc := ⟨.hbm, 315, rfl⟩
abbrev main_call14_v2 : Ref sig .tc := ⟨.hbm, 316, rfl⟩
abbrev main_call14_v3 : Ref sig .tc := ⟨.hbm, 317, rfl⟩
abbrev main_call14_v4 : Ref sig .tc := ⟨.hbm, 318, rfl⟩
abbrev main_call14_v5 : Ref sig .tc := ⟨.hbm, 319, rfl⟩
abbrev main_v201 : Ref sig .tc := ⟨.hbm, 320, rfl⟩
abbrev main_v202 : Ref sig .tc := ⟨.hbm, 321, rfl⟩
abbrev main_v203 : Ref sig .tc := ⟨.hbm, 322, rfl⟩
abbrev main_v204 : Ref sig .tc := ⟨.hbm, 323, rfl⟩
abbrev main_v205 : Ref sig .tc := ⟨.hbm, 324, rfl⟩
abbrev main_v206 : Ref sig .tc := ⟨.hbm, 325, rfl⟩
abbrev main_v207 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_v211 : Ref sig .tc := ⟨.hbm, 330, rfl⟩
abbrev main_v212 : Ref sig .tc := ⟨.hbm, 331, rfl⟩
abbrev main_v213 : Ref sig .tc := ⟨.hbm, 332, rfl⟩
abbrev main_v214 : Ref sig .tc := ⟨.hbm, 333, rfl⟩
abbrev main_v215 : Ref sig .tc := ⟨.hbm, 334, rfl⟩
abbrev main_v216 : Ref sig .tc := ⟨.hbm, 335, rfl⟩
abbrev main_v217 : Ref sig .tc := ⟨.hbm, 336, rfl⟩
abbrev main_v218 : Ref sig .tc := ⟨.hbm, 337, rfl⟩
abbrev main_v219 : Ref sig .tc := ⟨.hbm, 338, rfl⟩
abbrev main_v220 : Ref sig .tc := ⟨.hbm, 339, rfl⟩
abbrev main_v221 : Ref sig .tc := ⟨.hbm, 340, rfl⟩
abbrev main_v222 : Ref sig .tc := ⟨.hbm, 341, rfl⟩
abbrev main_v223 : Ref sig .tc := ⟨.hbm, 342, rfl⟩
abbrev main_v224 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_v234 : Ref sig .tc := ⟨.hbm, 353, rfl⟩
abbrev main_v235 : Ref sig .tc := ⟨.hbm, 354, rfl⟩
abbrev main_v236 : Ref sig .tc := ⟨.hbm, 355, rfl⟩
abbrev main_v237 : Ref sig .tc := ⟨.hbm, 356, rfl⟩
abbrev main_cst_28 : Ref sig .tc := ⟨.hbm, 357, rfl⟩
abbrev main_v238 : Ref sig .tc := ⟨.hbm, 358, rfl⟩
abbrev main_v239 : Ref sig .tc := ⟨.hbm, 359, rfl⟩
abbrev main_v240 : Ref sig .tc := ⟨.hbm, 360, rfl⟩
abbrev main_v241 : Ref sig .tc := ⟨.hbm, 361, rfl⟩
abbrev main_v242 : Ref sig .tc := ⟨.hbm, 362, rfl⟩
abbrev main_v243 : Ref sig .tc := ⟨.hbm, 363, rfl⟩
abbrev main_v244 : Ref sig .tc := ⟨.hbm, 364, rfl⟩
abbrev main_v245 : Ref sig .tc := ⟨.hbm, 365, rfl⟩
abbrev main_v246 : Ref sig .tc := ⟨.hbm, 366, rfl⟩
abbrev main_v247 : Ref sig .tc := ⟨.hbm, 367, rfl⟩
abbrev main_v248 : Ref sig .tc := ⟨.hbm, 368, rfl⟩
abbrev main_v249 : Ref sig .tc := ⟨.hbm, 369, rfl⟩
abbrev main_v250 : Ref sig .tc := ⟨.hbm, 370, rfl⟩
abbrev main_v251 : Ref sig .tc := ⟨.hbm, 371, rfl⟩
abbrev main_v252 : Ref sig .tc := ⟨.hbm, 372, rfl⟩
abbrev main_v253 : Ref sig .tc := ⟨.hbm, 373, rfl⟩
abbrev main_v254 : Ref sig .tc := ⟨.hbm, 374, rfl⟩
abbrev main_cst_29 : Ref sig .tc := ⟨.hbm, 375, rfl⟩
abbrev main_v255 : Ref sig .tc := ⟨.hbm, 376, rfl⟩
abbrev main_v256 : Ref sig .tc := ⟨.hbm, 377, rfl⟩
abbrev main_v257 : Ref sig .tc := ⟨.hbm, 378, rfl⟩
abbrev main_v258 : Ref sig .tc := ⟨.hbm, 379, rfl⟩
abbrev main_c_30 : Ref sig .tc := ⟨.hbm, 380, rfl⟩
abbrev main_v259 : Ref sig .tc := ⟨.hbm, 381, rfl⟩
abbrev main_v260 : Ref sig .tc := ⟨.hbm, 382, rfl⟩
abbrev main_c_31 : Ref sig .tc := ⟨.hbm, 383, rfl⟩
abbrev main_v261 : Ref sig .tc := ⟨.hbm, 384, rfl⟩
abbrev main_v262 : Ref sig .tc := ⟨.hbm, 385, rfl⟩
abbrev main_v263 : Ref sig .tc := ⟨.hbm, 386, rfl⟩
abbrev main_v264 : Ref sig .tc := ⟨.hbm, 387, rfl⟩
abbrev main_cst_32 : Ref sig .tc := ⟨.hbm, 388, rfl⟩
abbrev main_v265 : Ref sig .tc := ⟨.hbm, 389, rfl⟩
abbrev main_v266 : Ref sig .tc := ⟨.hbm, 390, rfl⟩
abbrev main_v267 : Ref sig .tc := ⟨.hbm, 391, rfl⟩
abbrev main_call15_c : Ref sig .tc := ⟨.hbm, 392, rfl⟩
abbrev main_call15_v0 : Ref sig .tc := ⟨.hbm, 393, rfl⟩
abbrev main_call15_v1 : Ref sig .tc := ⟨.hbm, 394, rfl⟩
abbrev main_call15_c_0 : Ref sig .tc := ⟨.hbm, 395, rfl⟩
abbrev main_call15_v2 : Ref sig .tc := ⟨.hbm, 396, rfl⟩
abbrev main_call15_v3 : Ref sig .tc := ⟨.hbm, 397, rfl⟩
abbrev main_call15_v4 : Ref sig .tc := ⟨.hbm, 398, rfl⟩
abbrev main_call15_v5 : Ref sig .tc := ⟨.hbm, 399, rfl⟩
abbrev main_v268 : Ref sig .tc := ⟨.hbm, 400, rfl⟩
abbrev main_v269 : Ref sig .tc := ⟨.hbm, 401, rfl⟩
abbrev main_v270 : Ref sig .tc := ⟨.hbm, 402, rfl⟩
abbrev main_call16_c : Ref sig .tc := ⟨.hbm, 403, rfl⟩
abbrev main_call16_v0 : Ref sig .tc := ⟨.hbm, 404, rfl⟩
abbrev main_call16_v1 : Ref sig .tc := ⟨.hbm, 405, rfl⟩
abbrev main_call16_c_0 : Ref sig .tc := ⟨.hbm, 406, rfl⟩
abbrev main_call16_v2 : Ref sig .tc := ⟨.hbm, 407, rfl⟩
abbrev main_call16_v3 : Ref sig .tc := ⟨.hbm, 408, rfl⟩
abbrev main_call16_v4 : Ref sig .tc := ⟨.hbm, 409, rfl⟩
abbrev main_call16_v5 : Ref sig .tc := ⟨.hbm, 410, rfl⟩
abbrev main_v271 : Ref sig .tc := ⟨.hbm, 411, rfl⟩
abbrev main_v272 : Ref sig .tc := ⟨.hbm, 412, rfl⟩
abbrev main_v273 : Ref sig .tc := ⟨.hbm, 413, rfl⟩
abbrev main_call17_c : Ref sig .tc := ⟨.hbm, 414, rfl⟩
abbrev main_call17_v0 : Ref sig .tc := ⟨.hbm, 415, rfl⟩
abbrev main_call17_v1 : Ref sig .tc := ⟨.hbm, 416, rfl⟩
abbrev main_call17_c_0 : Ref sig .tc := ⟨.hbm, 417, rfl⟩
abbrev main_call17_v2 : Ref sig .tc := ⟨.hbm, 418, rfl⟩
abbrev main_call17_v3 : Ref sig .tc := ⟨.hbm, 419, rfl⟩
abbrev main_call17_v4 : Ref sig .tc := ⟨.hbm, 420, rfl⟩
abbrev main_call17_v5 : Ref sig .tc := ⟨.hbm, 421, rfl⟩
abbrev main_v274 : Ref sig .tc := ⟨.hbm, 422, rfl⟩
abbrev main_v275 : Ref sig .tc := ⟨.hbm, 423, rfl⟩
abbrev main_v276 : Ref sig .tc := ⟨.hbm, 424, rfl⟩
abbrev main_call18_c : Ref sig .tc := ⟨.hbm, 425, rfl⟩
abbrev main_call18_v0 : Ref sig .tc := ⟨.hbm, 426, rfl⟩
abbrev main_call18_v1 : Ref sig .tc := ⟨.hbm, 427, rfl⟩
abbrev main_call18_c_0 : Ref sig .tc := ⟨.hbm, 428, rfl⟩
abbrev main_call18_v2 : Ref sig .tc := ⟨.hbm, 429, rfl⟩
abbrev main_call18_v3 : Ref sig .tc := ⟨.hbm, 430, rfl⟩
abbrev main_call18_v4 : Ref sig .tc := ⟨.hbm, 431, rfl⟩
abbrev main_call18_v5 : Ref sig .tc := ⟨.hbm, 432, rfl⟩
abbrev main_v277 : Ref sig .tc := ⟨.hbm, 433, rfl⟩
abbrev main_v278 : Ref sig .tc := ⟨.hbm, 434, rfl⟩
abbrev main_v279 : Ref sig .tc := ⟨.hbm, 435, rfl⟩
abbrev main_v280 : Ref sig .tc := ⟨.hbm, 436, rfl⟩
abbrev main_v281 : Ref sig .tc := ⟨.hbm, 437, rfl⟩
abbrev main_v282 : Ref sig .tc := ⟨.hbm, 438, rfl⟩
abbrev main_v283 : Ref sig .tc := ⟨.hbm, 439, rfl⟩
abbrev main_v284 : Ref sig .tc := ⟨.hbm, 440, rfl⟩
abbrev main_v285 : Ref sig .tc := ⟨.hbm, 441, rfl⟩
abbrev main_v286 : Ref sig .tc := ⟨.hbm, 442, rfl⟩
abbrev main_v287 : Ref sig .tc := ⟨.hbm, 443, rfl⟩
abbrev main_v288 : Ref sig .tc := ⟨.hbm, 444, rfl⟩
abbrev main_v289 : Ref sig .tc := ⟨.hbm, 445, rfl⟩
abbrev main_v290 : Ref sig .tc := ⟨.hbm, 446, rfl⟩
abbrev main_v291 : Ref sig .tc := ⟨.hbm, 447, rfl⟩
abbrev main_v292 : Ref sig .tc := ⟨.hbm, 448, rfl⟩
abbrev main_v293 : Ref sig .tc := ⟨.hbm, 449, rfl⟩
abbrev main_v294 : Ref sig .tc := ⟨.hbm, 450, rfl⟩
abbrev main_cst_33 : Ref sig .tc := ⟨.hbm, 451, rfl⟩
abbrev main_v295 : Ref sig .tc := ⟨.hbm, 452, rfl⟩
abbrev main_v296 : Ref sig .tc := ⟨.hbm, 453, rfl⟩
abbrev main_cst_34 : Ref sig .tc := ⟨.hbm, 454, rfl⟩
abbrev main_v297 : Ref sig .tc := ⟨.hbm, 455, rfl⟩
abbrev main_v298 : Ref sig .tc := ⟨.hbm, 456, rfl⟩
abbrev main_v299 : Ref sig .tc := ⟨.hbm, 457, rfl⟩
abbrev main_v300 : Ref sig .tc := ⟨.hbm, 458, rfl⟩
abbrev main_v301 : Ref sig .tc := ⟨.hbm, 459, rfl⟩
abbrev main_v302 : Ref sig .tc := ⟨.hbm, 460, rfl⟩
abbrev main_v303 : Ref sig .tc := ⟨.hbm, 461, rfl⟩
abbrev main_v304 : Ref sig .tc := ⟨.hbm, 462, rfl⟩
abbrev main_cst_35 : Ref sig .tc := ⟨.hbm, 463, rfl⟩
abbrev main_v305 : Ref sig .tc := ⟨.hbm, 464, rfl⟩
abbrev main_v306 : Ref sig .tc := ⟨.hbm, 465, rfl⟩
abbrev main_v307 : Ref sig .tc := ⟨.hbm, 466, rfl⟩
abbrev main_call19_v0 : Ref sig .tc := ⟨.hbm, 467, rfl⟩
abbrev main_v308 : Ref sig .tc := ⟨.hbm, 468, rfl⟩
abbrev main_v309 : Ref sig .tc := ⟨.hbm, 469, rfl⟩
abbrev main_call20_c : Ref sig .tc := ⟨.hbm, 470, rfl⟩
abbrev main_call20_v0 : Ref sig .tc := ⟨.hbm, 471, rfl⟩
abbrev main_call20_v1 : Ref sig .tc := ⟨.hbm, 472, rfl⟩
abbrev main_call20_c_0 : Ref sig .tc := ⟨.hbm, 473, rfl⟩
abbrev main_call20_v2 : Ref sig .tc := ⟨.hbm, 474, rfl⟩
abbrev main_call20_v3 : Ref sig .tc := ⟨.hbm, 475, rfl⟩
abbrev main_call20_v4 : Ref sig .tc := ⟨.hbm, 476, rfl⟩
abbrev main_call20_v5 : Ref sig .tc := ⟨.hbm, 477, rfl⟩
abbrev main_v310 : Ref sig .tc := ⟨.hbm, 478, rfl⟩
abbrev main_v311 : Ref sig .tc := ⟨.hbm, 479, rfl⟩
abbrev main_v312 : Ref sig .tc := ⟨.hbm, 480, rfl⟩
abbrev main_v313 : Ref sig .tc := ⟨.hbm, 481, rfl⟩
abbrev main_v314 : Ref sig .tc := ⟨.hbm, 482, rfl⟩
abbrev main_v315 : Ref sig .tc := ⟨.hbm, 483, rfl⟩
abbrev main_v316 : Ref sig .tc := ⟨.hbm, 484, rfl⟩
abbrev main_v317 : Ref sig .tc := ⟨.hbm, 485, rfl⟩
abbrev main_v318 : Ref sig .tc := ⟨.hbm, 486, rfl⟩
abbrev main_v319 : Ref sig .tc := ⟨.hbm, 487, rfl⟩
abbrev main_v320 : Ref sig .tc := ⟨.hbm, 488, rfl⟩
abbrev main_v321 : Ref sig .tc := ⟨.hbm, 489, rfl⟩
abbrev main_v322 : Ref sig .tc := ⟨.hbm, 490, rfl⟩
abbrev main_v323 : Ref sig .tc := ⟨.hbm, 491, rfl⟩
abbrev main_v324 : Ref sig .tc := ⟨.hbm, 492, rfl⟩
abbrev main_v325 : Ref sig .tc := ⟨.hbm, 493, rfl⟩
abbrev main_v326 : Ref sig .tc := ⟨.hbm, 494, rfl⟩
abbrev main_v327 : Ref sig .tc := ⟨.hbm, 495, rfl⟩
abbrev main_v328 : Ref sig .tc := ⟨.hbm, 496, rfl⟩
abbrev main_v329 : Ref sig .tc := ⟨.hbm, 497, rfl⟩
abbrev main_v330 : Ref sig .tc := ⟨.hbm, 498, rfl⟩
abbrev main_v331 : Ref sig .tc := ⟨.hbm, 499, rfl⟩
abbrev main_v332 : Ref sig .tc := ⟨.hbm, 500, rfl⟩
abbrev main_v333 : Ref sig .tc := ⟨.hbm, 501, rfl⟩
abbrev main_v334 : Ref sig .tc := ⟨.hbm, 502, rfl⟩
abbrev main_v335 : Ref sig .tc := ⟨.hbm, 503, rfl⟩
abbrev main_v336 : Ref sig .tc := ⟨.hbm, 504, rfl⟩
abbrev main_v337 : Ref sig .tc := ⟨.hbm, 505, rfl⟩
abbrev main_v338 : Ref sig .tc := ⟨.hbm, 506, rfl⟩
abbrev main_v339 : Ref sig .tc := ⟨.hbm, 507, rfl⟩
abbrev main_v340 : Ref sig .tc := ⟨.hbm, 508, rfl⟩
abbrev main_v341 : Ref sig .tc := ⟨.hbm, 509, rfl⟩
abbrev main_v342 : Ref sig .tc := ⟨.hbm, 510, rfl⟩
abbrev main_v343 : Ref sig .tc := ⟨.hbm, 511, rfl⟩
abbrev main_v344 : Ref sig .tc := ⟨.hbm, 512, rfl⟩
abbrev main_v345 : Ref sig .tc := ⟨.hbm, 513, rfl⟩
abbrev main_v346 : Ref sig .tc := ⟨.hbm, 514, rfl⟩
abbrev main_v347 : Ref sig .tc := ⟨.hbm, 515, rfl⟩
abbrev main_v348 : Ref sig .tc := ⟨.hbm, 516, rfl⟩
abbrev main_v349 : Ref sig .tc := ⟨.hbm, 517, rfl⟩
abbrev main_v350 : Ref sig .tc := ⟨.hbm, 518, rfl⟩
abbrev main_v351 : Ref sig .tc := ⟨.hbm, 519, rfl⟩
abbrev main_v352 : Ref sig .tc := ⟨.hbm, 520, rfl⟩
abbrev main_v353 : Ref sig .tc := ⟨.hbm, 521, rfl⟩
abbrev main_v354 : Ref sig .tc := ⟨.hbm, 522, rfl⟩
abbrev main_v355 : Ref sig .tc := ⟨.hbm, 523, rfl⟩
abbrev main_v356 : Ref sig .tc := ⟨.hbm, 524, rfl⟩
abbrev main_v357 : Ref sig .tc := ⟨.hbm, 525, rfl⟩
abbrev main_v358 : Ref sig .tc := ⟨.hbm, 526, rfl⟩
abbrev main_v359 : Ref sig .tc := ⟨.hbm, 527, rfl⟩
abbrev main_v360 : Ref sig .tc := ⟨.hbm, 528, rfl⟩
abbrev main_v361 : Ref sig .tc := ⟨.hbm, 529, rfl⟩
abbrev main_v362 : Ref sig .tc := ⟨.hbm, 530, rfl⟩
abbrev main_v363 : Ref sig .tc := ⟨.hbm, 531, rfl⟩
abbrev main_v364 : Ref sig .tc := ⟨.hbm, 532, rfl⟩
abbrev main_cst_36 : Ref sig .tc := ⟨.hbm, 533, rfl⟩
abbrev main_v365 : Ref sig .tc := ⟨.hbm, 534, rfl⟩
abbrev main_v366 : Ref sig .tc := ⟨.hbm, 535, rfl⟩
abbrev main_v367 : Ref sig .tc := ⟨.hbm, 536, rfl⟩
abbrev main_v368 : Ref sig .tc := ⟨.hbm, 537, rfl⟩
abbrev main_v369 : Ref sig .tc := ⟨.hbm, 538, rfl⟩
abbrev main_v370 : Ref sig .tc := ⟨.hbm, 539, rfl⟩
abbrev main_v371 : Ref sig .tc := ⟨.hbm, 540, rfl⟩
abbrev main_v372 : Ref sig .tc := ⟨.hbm, 541, rfl⟩
abbrev main_v373 : Ref sig .tc := ⟨.hbm, 542, rfl⟩
abbrev main_v374 : Ref sig .tc := ⟨.hbm, 543, rfl⟩
abbrev main_v375 : Ref sig .tc := ⟨.hbm, 544, rfl⟩
abbrev main_v376 : Ref sig .tc := ⟨.hbm, 545, rfl⟩
abbrev main_v377 : Ref sig .tc := ⟨.hbm, 546, rfl⟩
abbrev main_v378 : Ref sig .tc := ⟨.hbm, 547, rfl⟩
abbrev main_v379 : Ref sig .tc := ⟨.hbm, 548, rfl⟩
abbrev main_v380 : Ref sig .tc := ⟨.hbm, 549, rfl⟩
abbrev main_v381 : Ref sig .tc := ⟨.hbm, 550, rfl⟩
abbrev main_v382 : Ref sig .tc := ⟨.hbm, 551, rfl⟩
abbrev main_v383 : Ref sig .tc := ⟨.hbm, 552, rfl⟩
abbrev main_cst_37 : Ref sig .tc := ⟨.hbm, 553, rfl⟩
abbrev main_v384 : Ref sig .tc := ⟨.hbm, 554, rfl⟩
abbrev main_v385 : Ref sig .tc := ⟨.hbm, 555, rfl⟩
abbrev main_v386 : Ref sig .tc := ⟨.hbm, 556, rfl⟩
abbrev main_v387 : Ref sig .tc := ⟨.hbm, 557, rfl⟩
abbrev main_v388 : Ref sig .tc := ⟨.hbm, 558, rfl⟩
abbrev main_v389 : Ref sig .tc := ⟨.hbm, 559, rfl⟩
abbrev main_call21_v0 : Ref sig .tc := ⟨.hbm, 560, rfl⟩
abbrev main_v390 : Ref sig .tc := ⟨.hbm, 561, rfl⟩
abbrev main_v391 : Ref sig .tc := ⟨.hbm, 562, rfl⟩
abbrev main_v392 : Ref sig .tc := ⟨.hbm, 563, rfl⟩
abbrev main_v393 : Ref sig .tc := ⟨.hbm, 564, rfl⟩
abbrev main_v394 : Ref sig .tc := ⟨.hbm, 565, rfl⟩
abbrev main_call22_v0 : Ref sig .tc := ⟨.hbm, 566, rfl⟩
abbrev main_v395 : Ref sig .tc := ⟨.hbm, 567, rfl⟩
abbrev main_v396 : Ref sig .tc := ⟨.hbm, 568, rfl⟩
abbrev main_v397 : Ref sig .tc := ⟨.hbm, 569, rfl⟩
abbrev main_v398 : Ref sig .tc := ⟨.hbm, 570, rfl⟩
abbrev main_v399 : Ref sig .tc := ⟨.hbm, 571, rfl⟩
abbrev main_call23_v0 : Ref sig .tc := ⟨.hbm, 572, rfl⟩
abbrev main_v400 : Ref sig .tc := ⟨.hbm, 573, rfl⟩
abbrev main_v401 : Ref sig .tc := ⟨.hbm, 574, rfl⟩
abbrev main_v402 : Ref sig .tc := ⟨.hbm, 575, rfl⟩
abbrev main_v403 : Ref sig .tc := ⟨.hbm, 576, rfl⟩
abbrev main_v404 : Ref sig .tc := ⟨.hbm, 577, rfl⟩
abbrev main_call24_v0 : Ref sig .tc := ⟨.hbm, 578, rfl⟩
abbrev main_v405 : Ref sig .tc := ⟨.hbm, 579, rfl⟩
abbrev main_v406 : Ref sig .tc := ⟨.hbm, 580, rfl⟩
abbrev main_v407 : Ref sig .tc := ⟨.hbm, 581, rfl⟩
abbrev main_v408 : Ref sig .tc := ⟨.hbm, 582, rfl⟩
abbrev main_v409 : Ref sig .tc := ⟨.hbm, 583, rfl⟩
abbrev main_call25_v0 : Ref sig .tc := ⟨.hbm, 584, rfl⟩
abbrev main_v410 : Ref sig .tc := ⟨.hbm, 585, rfl⟩
abbrev main_v411 : Ref sig .tc := ⟨.hbm, 586, rfl⟩
abbrev main_v412 : Ref sig .tc := ⟨.hbm, 587, rfl⟩
abbrev main_v413 : Ref sig .tc := ⟨.hbm, 588, rfl⟩
abbrev main_v414 : Ref sig .tc := ⟨.hbm, 589, rfl⟩
abbrev main_v415 : Ref sig .tc := ⟨.hbm, 590, rfl⟩
abbrev main_cst_38 : Ref sig .tc := ⟨.hbm, 591, rfl⟩
abbrev main_v416 : Ref sig .tc := ⟨.hbm, 592, rfl⟩
abbrev main_cst_39 : Ref sig .tc := ⟨.hbm, 593, rfl⟩
abbrev main_v417 : Ref sig .tc := ⟨.hbm, 594, rfl⟩
abbrev main_cst_40 : Ref sig .tc := ⟨.hbm, 595, rfl⟩
abbrev main_v418 : Ref sig .tc := ⟨.hbm, 596, rfl⟩
abbrev main_v419 : Ref sig .tc := ⟨.hbm, 597, rfl⟩
abbrev main_v420 : Ref sig .tc := ⟨.hbm, 598, rfl⟩
abbrev main_cst_41 : Ref sig .tc := ⟨.hbm, 599, rfl⟩
abbrev main_v421 : Ref sig .tc := ⟨.hbm, 600, rfl⟩
abbrev main_cst_42 : Ref sig .tc := ⟨.hbm, 601, rfl⟩
abbrev main_v422 : Ref sig .tc := ⟨.hbm, 602, rfl⟩
abbrev main_v423 : Ref sig .tc := ⟨.hbm, 603, rfl⟩
abbrev main_v424 : Ref sig .tc := ⟨.hbm, 604, rfl⟩
abbrev main_v425 : Ref sig .tc := ⟨.hbm, 605, rfl⟩
abbrev main_v426 : Ref sig .tc := ⟨.hbm, 606, rfl⟩

abbrev nD : Nat := 1
abbrev τ : Topo := Topo.v7x

variable {F : FTy → Type} [FloatOps F]
-- ==== Proof.Frames.lean ====
/- The frames of the three programs and the ledger of the kernel's idealization: each program runs to its end, its
   arguments unchanged and every semaphore counter back at zero, and the one named constant stands for what it says. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Pre_generic
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel as printed runs, from any memory. -/
theorem frame_kernel : Cert.quiescent_Kernel := fun m ρ _ => Cert.Kernel.Gen.frame m ρ

/-- The same, of the memories the claims of the idealized kernel are made of. -/
theorem frame_kernel_generic : Cert.quiescent_Kernel_pre_generic := fun m ρ _ => frame_kernel m ρ trivial

/-- The idealized kernel runs, from any memory. -/
theorem frame_kernelIdeal : Cert.quiescent_KernelIdeal := fun m ρ _ => Cert.KernelIdeal.Gen.frame m ρ

/-- The idealized reference, a straight line of host operations with no semaphores, runs, from any memory. -/
theorem frame_referenceIdeal : Cert.quiescent_ReferenceIdeal := fun m ρ _ =>
  (θ_run Cert.ReferenceIdeal.defs _ _).mono
    (fun r h => ⟨fun c => ⟨(h c).2.2.2.1, (h c).2.2.2.2⟩, sem_eq_zero_of_no_sems (by decide) r.2⟩)
    (Cert.ReferenceIdeal.Value.run (F := Ideal) m ρ)

/-- The idealized reference runs, of the memories the value claim is made of. -/
theorem frame_referenceIdeal_generic : Cert.quiescent_ReferenceIdeal_pre_generic := fun m ρ _ =>
  frame_referenceIdeal m ρ trivial

/-- The penalty on a selected atom, 10³⁰ in the kernel, is named as the greatest extended real. -/
theorem preserves : Cert.preserves_Kernel_KernelIdeal :=
  IdealRules.named_const.statement Cert.KernelIdeal.κ "penalty" .f32 0x7149F2CA#32 ⊤ rfl

end Cert.Proof

end
-- ==== Proof.Spec.lean ====
/- Five steps of orthogonal matching pursuit on one signal, over the extended reals.

   `b a` is the correlation of the signal with atom `a`, `G a a'` that of two atoms. Each step selects the atom of the
   greatest absolute residual correlation among those not yet selected, extends the Cholesky factor of the selected
   atoms' Gram matrix by a row, and solves the two triangular systems for the coefficients. The factor's entries are
   written as functions of the leaves they are computed from: the correlations at the selected atoms and the entries of
   the Gram matrix between them. -/
module

public import Idealize.ShloMosaic.PureOps.Ideal
public import Idealize.ShloMosaic.PureOps.Ideal.Laws
public import Idealize.ShloMosaic.Lib.IdealHost

@[expose] public section

noncomputable section

namespace Cert.Pursuit

open Idealize.ShloMosaic

/-- The constant 1, as the programs write it. -/
def one : EReal := Ideal.ofBits .f32 0x3F800000#32

/-- The constant 0, as the programs write it. -/
def zero : EReal := Ideal.ofBits .f32 0x00000000#32

/-- That constant is one. -/
theorem one_eq : one = 1 := Ideal.ofBits_one_f32

/-- That constant is zero. -/
theorem zero_eq : zero = 0 := Ideal.ofBits_zero_f32

/-! ### The triangular factor and the two solves -/

/-- What the selected atoms contribute: `vi` the correlation at the i-th, `gij` the Gram entry of the i-th and the j-th. -/
structure Leaves where
  v0 : EReal
  v1 : EReal
  v2 : EReal
  v3 : EReal
  v4 : EReal
  g01 : EReal
  g02 : EReal
  g12 : EReal
  g03 : EReal
  g13 : EReal
  g23 : EReal
  g04 : EReal
  g14 : EReal
  g24 : EReal
  g34 : EReal

namespace Leaves

/-- The leaves after the first selection. -/
def start (v0 : EReal) : Leaves := ⟨v0, 0, 0, 0, 0, 0, 0, 0, 0, 0, 0, 0, 0, 0, 0⟩

/-- The leaves after the second selection. -/
def step1 (s : Leaves) (v1 g01 : EReal) : Leaves := { s with v1 := v1, g01 := g01 }

/-- The leaves after the third selection. -/
def step2 (s : Leaves) (v2 g02 g12 : EReal) : Leaves := { s with v2 := v2, g02 := g02, g12 := g12 }

/-- The leaves after the fourth selection. -/
def step3 (s : Leaves) (v3 g03 g13 g23 : EReal) : Leaves := { s with v3 := v3, g03 := g03, g13 := g13, g23 := g23 }

/-- The leaves after the fifth selection. -/
def step4 (s : Leaves) (v4 g04 g14 g24 g34 : EReal) : Leaves :=
  { s with v4 := v4, g04 := g04, g14 := g14, g24 := g24, g34 := g34 }

variable (s : Leaves)

/-! Row by row, the Cholesky factor with unit first entry. -/

/-- The first entry of the factor's second row. -/
def l10 : EReal := Ideal.div s.g01 one
/-- The second entry of the factor's second row. -/
def l11 : EReal := Ideal.sqrt (one - (zero + s.l10 * s.l10))
/-- The first entry of the factor's third row. -/
def l20 : EReal := Ideal.div s.g02 one
/-- The second entry of the factor's third row. -/
def l21 : EReal := Ideal.div (s.g12 - s.l10 * s.l20) s.l11
/-- The third entry of the factor's third row. -/
def l22 : EReal := Ideal.sqrt (one - (zero + s.l20 * s.l20 + s.l21 * s.l21))
/-- The first entry of the factor's fourth row. -/
def l30 : EReal := Ideal.div s.g03 one
/-- The second entry of the factor's fourth row. -/
def l31 : EReal := Ideal.div (s.g13 - s.l10 * s.l30) s.l11
/-- The third entry of the factor's fourth row. -/
def l32 : EReal := Ideal.div (s.g23 - s.l20 * s.l30 - s.l21 * s.l31) s.l22
/-- The fourth entry of the factor's fourth row. -/
def l33 : EReal := Ideal.sqrt (one - (zero + s.l30 * s.l30 + s.l31 * s.l31 + s.l32 * s.l32))
/-- The first entry of the factor's fifth row. -/
def l40 : EReal := Ideal.div s.g04 one
/-- The second entry of the factor's fifth row. -/
def l41 : EReal := Ideal.div (s.g14 - s.l10 * s.l40) s.l11
/-- The third entry of the factor's fifth row. -/
def l42 : EReal := Ideal.div (s.g24 - s.l20 * s.l40 - s.l21 * s.l41) s.l22
/-- The fourth entry of the factor's fifth row. -/
def l43 : EReal := Ideal.div (s.g34 - s.l30 * s.l40 - s.l31 * s.l41 - s.l32 * s.l42) s.l33
/-- The fifth entry of the factor's fifth row. -/
def l44 : EReal := Ideal.sqrt (one - (zero + s.l40 * s.l40 + s.l41 * s.l41 + s.l42 * s.l42 + s.l43 * s.l43))

/-! The forward solve; its earlier entries do not change as the factor grows. -/

/-- The first entry of the forward solve. -/
def y0 : EReal := Ideal.div s.v0 one
/-- The second entry of the forward solve. -/
def y1 : EReal := Ideal.div (s.v1 - s.l10 * s.y0) s.l11
/-- The third entry of the forward solve. -/
def y2 : EReal := Ideal.div (s.v2 - s.l20 * s.y0 - s.l21 * s.y1) s.l22
/-- The fourth entry of the forward solve. -/
def y3 : EReal := Ideal.div (s.v3 - s.l30 * s.y0 - s.l31 * s.y1 - s.l32 * s.y2) s.l33
/-- The fifth entry of the forward solve. -/
def y4 : EReal := Ideal.div (s.v4 - s.l40 * s.y0 - s.l41 * s.y1 - s.l42 * s.y2 - s.l43 * s.y3) s.l44

/-! The backward solve: `cNi` is the i-th coefficient with N atoms selected. -/

/-- The first coefficient with one atom selected. -/
def c10 : EReal := Ideal.div s.y0 one
/-- The second coefficient with two atoms selected. -/
def c21 : EReal := Ideal.div s.y1 s.l11
/-- The first coefficient with two atoms selected. -/
def c20 : EReal := Ideal.div (s.y0 - s.l10 * s.c21) one
/-- The third coefficient with three atoms selected. -/
def c32 : EReal := Ideal.div s.y2 s.l22
/-- The second coefficient with three atoms selected. -/
def c31 : EReal := Ideal.div (s.y1 - s.l21 * s.c32) s.l11
/-- The first coefficient with three atoms selected. -/
def c30 : EReal := Ideal.div (s.y0 - s.l10 * s.c31 - s.l20 * s.c32) one
/-- The fourth coefficient with four atoms selected. -/
def c43 : EReal := Ideal.div s.y3 s.l33
/-- The third coefficient with four atoms selected. -/
def c42 : EReal := Ideal.div (s.y2 - s.l32 * s.c43) s.l22
/-- The second coefficient with four atoms selected. -/
def c41 : EReal := Ideal.div (s.y1 - s.l21 * s.c42 - s.l31 * s.c43) s.l11
/-- The first coefficient with four atoms selected. -/
def c40 : EReal := Ideal.div (s.y0 - s.l10 * s.c41 - s.l20 * s.c42 - s.l30 * s.c43) one
/-- The fifth coefficient with five atoms selected. -/
def c54 : EReal := Ideal.div s.y4 s.l44
/-- The fourth coefficient with five atoms selected. -/
def c53 : EReal := Ideal.div (s.y3 - s.l43 * s.c54) s.l33
/-- The third coefficient with five atoms selected. -/
def c52 : EReal := Ideal.div (s.y2 - s.l32 * s.c53 - s.l42 * s.c54) s.l22
/-- The second coefficient with five atoms selected. -/
def c51 : EReal := Ideal.div (s.y1 - s.l21 * s.c52 - s.l31 * s.c53 - s.l41 * s.c54) s.l11
/-- The first coefficient with five atoms selected. -/
def c50 : EReal := Ideal.div (s.y0 - s.l10 * s.c51 - s.l20 * s.c52 - s.l30 * s.c53 - s.l40 * s.c54) one

/-! What a selection adds, and what it leaves: a quantity of the factor is settled as soon as the atoms it is read from
are selected. -/

/-- What the first selection sets. -/
theorem start_reads (v0 : EReal) : (start v0).v0 = v0 := rfl

/-- What the second selection sets, and what of the factor it leaves. -/
theorem step1_reads (v1 g01 : EReal) :
    (s.step1 v1 g01).v1 = v1 ∧ (s.step1 v1 g01).g01 = g01 ∧ (s.step1 v1 g01).y0 = s.y0 := ⟨rfl, rfl, rfl⟩

/-- What the third selection sets, and what of the factor it leaves. -/
theorem step2_reads (v2 g02 g12 : EReal) :
    (s.step2 v2 g02 g12).v2 = v2 ∧ (s.step2 v2 g02 g12).g02 = g02 ∧ (s.step2 v2 g02 g12).g12 = g12
      ∧ (s.step2 v2 g02 g12).l10 = s.l10 ∧ (s.step2 v2 g02 g12).l11 = s.l11
      ∧ (s.step2 v2 g02 g12).y0 = s.y0 ∧ (s.step2 v2 g02 g12).y1 = s.y1 := ⟨rfl, rfl, rfl, rfl, rfl, rfl, rfl⟩

/-- What the fourth selection sets, and what of the factor it leaves. -/
theorem step3_reads (v3 g03 g13 g23 : EReal) :
    (s.step3 v3 g03 g13 g23).v3 = v3 ∧ (s.step3 v3 g03 g13 g23).g03 = g03 ∧ (s.step3 v3 g03 g13 g23).g13 = g13
      ∧ (s.step3 v3 g03 g13 g23).g23 = g23
      ∧ (s.step3 v3 g03 g13 g23).l10 = s.l10 ∧ (s.step3 v3 g03 g13 g23).l11 = s.l11
      ∧ (s.step3 v3 g03 g13 g23).l20 = s.l20 ∧ (s.step3 v3 g03 g13 g23).l21 = s.l21
      ∧ (s.step3 v3 g03 g13 g23).l22 = s.l22 ∧ (s.step3 v3 g03 g13 g23).y0 = s.y0
      ∧ (s.step3 v3 g03 g13 g23).y1 = s.y1 ∧ (s.step3 v3 g03 g13 g23).y2 = s.y2 :=
  ⟨rfl, rfl, rfl, rfl, rfl, rfl, rfl, rfl, rfl, rfl, rfl, rfl⟩

/-- What the fifth selection sets, and what of the factor it leaves. -/
theorem step4_reads (v4 g04 g14 g24 g34 : EReal) :
    (s.step4 v4 g04 g14 g24 g34).v4 = v4 ∧ (s.step4 v4 g04 g14 g24 g34).g04 = g04
      ∧ (s.step4 v4 g04 g14 g24 g34).g14 = g14 ∧ (s.step4 v4 g04 g14 g24 g34).g24 = g24
      ∧ (s.step4 v4 g04 g14 g24 g34).g34 = g34
      ∧ (s.step4 v4 g04 g14 g24 g34).l10 = s.l10 ∧ (s.step4 v4 g04 g14 g24 g34).l11 = s.l11
      ∧ (s.step4 v4 g04 g14 g24 g34).l20 = s.l20 ∧ (s.step4 v4 g04 g14 g24 g34).l21 = s.l21
      ∧ (s.step4 v4 g04 g14 g24 g34).l22 = s.l22 ∧ (s.step4 v4 g04 g14 g24 g34).l30 = s.l30
      ∧ (s.step4 v4 g04 g14 g24 g34).l31 = s.l31 ∧ (s.step4 v4 g04 g14 g24 g34).l32 = s.l32
      ∧ (s.step4 v4 g04 g14 g24 g34).l33 = s.l33 ∧ (s.step4 v4 g04 g14 g24 g34).y0 = s.y0
      ∧ (s.step4 v4 g04 g14 g24 g34).y1 = s.y1 ∧ (s.step4 v4 g04 g14 g24 g34).y2 = s.y2
      ∧ (s.step4 v4 g04 g14 g24 g34).y3 = s.y3 :=
  ⟨rfl, rfl, rfl, rfl, rfl, rfl, rfl, rfl, rfl, rfl, rfl, rfl, rfl, rfl, rfl, rfl, rfl, rfl⟩

end Leaves

/-! ### The selections -/

/-- One index for each of the 512 atoms. -/
abbrev Atom : Type := Fin 512

/-- The absolute value the programs take. -/
def mag (x : EReal) : EReal := max x (-x)

/-- `f` is strictly greatest at `p`. -/
def Top (f : Atom → EReal) (p : Atom) : Prop := ∀ q, q ≠ p → f q < f p

section

variable (b : Atom → EReal) (G : Atom → Atom → EReal) (p0 p1 p2 p3 p4 : Atom)

/-! The leaves after each selection. -/

/-- The leaves after the first selection. -/
def leaves1 : Leaves := .start (b p0)
/-- The leaves after the second selection. -/
def leaves2 : Leaves := (leaves1 b p0).step1 (b p1) (G p0 p1)
/-- The leaves after the third selection. -/
def leaves3 : Leaves := (leaves2 b G p0 p1).step2 (b p2) (G p0 p2) (G p1 p2)
/-- The leaves after the fourth selection. -/
def leaves4 : Leaves := (leaves3 b G p0 p1 p2).step3 (b p3) (G p0 p3) (G p1 p3) (G p2 p3)
/-- The leaves after the fifth selection. -/
def leaves5 : Leaves := (leaves4 b G p0 p1 p2 p3).step4 (b p4) (G p0 p4) (G p1 p4) (G p2 p4) (G p3 p4)

/-! The residual correlations after each selection. -/

/-- The residual correlations after the first selection. -/
def corr1 (a : Atom) : EReal := b a - (leaves1 b p0).c10 * G p0 a
/-- The residual correlations after the second selection. -/
def corr2 (a : Atom) : EReal := b a - ((leaves2 b G p0 p1).c20 * G p0 a + (leaves2 b G p0 p1).c21 * G p1 a)
/-- The residual correlations after the third selection. -/
def corr3 (a : Atom) : EReal :=
  b a - ((leaves3 b G p0 p1 p2).c30 * G p0 a + (leaves3 b G p0 p1 p2).c31 * G p1 a + (leaves3 b G p0 p1 p2).c32 * G p2 a)
/-- The residual correlations after the fourth selection. -/
def corr4 (a : Atom) : EReal :=
  b a - ((leaves4 b G p0 p1 p2 p3).c40 * G p0 a + (leaves4 b G p0 p1 p2 p3).c41 * G p1 a
    + (leaves4 b G p0 p1 p2 p3).c42 * G p2 a + (leaves4 b G p0 p1 p2 p3).c43 * G p3 a)

/-! One on the atoms not yet selected, zero on the selected. -/

/-- The mask after the first selection. -/
def free1 (a : Atom) : EReal := if a = p0 then zero else one
/-- The mask after the second selection. -/
def free2 (a : Atom) : EReal := if a = p1 then zero else free1 p0 a
/-- The mask after the third selection. -/
def free3 (a : Atom) : EReal := if a = p2 then zero else free2 p0 p1 a
/-- The mask after the fourth selection. -/
def free4 (a : Atom) : EReal := if a = p3 then zero else free3 p0 p1 p2 a

/-- The pursuit's five selections: at each step the selected atom's score is strictly the greatest. -/
structure Greedy : Prop where
  top0 : Top (fun a => mag (b a * one)) p0
  top1 : Top (fun a => mag (corr1 b G p0 a * free1 p0 a)) p1
  top2 : Top (fun a => mag (corr2 b G p0 p1 a * free2 p0 p1 a)) p2
  top3 : Top (fun a => mag (corr3 b G p0 p1 p2 a * free3 p0 p1 p2 a)) p3
  top4 : Top (fun a => mag (corr4 b G p0 p1 p2 p3 a * free4 p0 p1 p2 p3 a)) p4

/-- The coefficient the pursuit gives atom `a`. -/
def coefficient (a : Atom) : EReal :=
  if a = p4 then (leaves5 b G p0 p1 p2 p3 p4).c54
  else if a = p3 then (leaves5 b G p0 p1 p2 p3 p4).c53
  else if a = p2 then (leaves5 b G p0 p1 p2 p3 p4).c52
  else if a = p1 then (leaves5 b G p0 p1 p2 p3 p4).c51
  else if a = p0 then (leaves5 b G p0 p1 p2 p3 p4).c50
  else zero

end

/-! ### Scores by penalty and scores by mask -/

/-- A magnitude is not negative. -/
theorem mag_nonneg (x : EReal) : 0 ≤ mag x := by
  unfold mag
  rcases le_total 0 x with h | h
  · exact le_max_of_le_left h
  · exact le_max_of_le_right (by simpa using EReal.neg_le_neg_iff.mpr h)

/-- The magnitude of zero is zero. -/
theorem mag_zero : mag 0 = 0 := by simp [mag]

/-- One on the atoms that are one of a list and zero elsewhere, in the form the kernel's comparisons give. -/
def hot (p a : Atom) : EReal := if a = p then 1 else 0

/-- A penalty that is infinite exactly where the mask is zero. -/
def Barred (free pen : Atom → EReal) : Prop := ∀ a, (free a = one ∧ pen a = 0) ∨ (free a = zero ∧ pen a = ⊤)

/-- Before any selection nothing is barred. -/
theorem barred_start : Barred (fun _ => one) (fun _ => zero) := fun _ => .inl ⟨rfl, zero_eq⟩

/-- Selecting `p` bars it. -/
theorem Barred.select {free pen : Atom → EReal} (h : Barred free pen) (p : Atom) :
    Barred (fun a => if a = p then zero else free a) (fun a => pen a + hot p a * ⊤) := by
  intro a
  by_cases e : a = p
  · right
    refine ⟨if_pos e, ?_⟩
    subst e
    rcases h a with ⟨-, hp⟩ | ⟨-, hp⟩ <;> simp [hp, hot]
  · rcases h a with ⟨hf, hp⟩ | ⟨hf, hp⟩
    · exact .inl ⟨(if_neg e).trans hf, by simp [hp, hot, e]⟩
    · exact .inr ⟨(if_neg e).trans hf, by simp [hp, hot, e]⟩

/-- The atom strictly greatest by masked score is free: its score exceeds another's, which is not negative. -/
theorem Top.free_eq_one {c free pen : Atom → EReal} {p : Atom} (h : Barred free pen)
    (t : Top (fun a => mag (c a * free a)) p) : free p = one := by
  rcases h p with ⟨hf, -⟩ | ⟨hf, -⟩
  · exact hf
  · exfalso
    obtain ⟨q, hq⟩ : ∃ q : Atom, q ≠ p := exists_ne p
    have := t q hq
    simp only [hf, zero_eq, mul_zero, mag_zero] at this
    exact absurd this (not_lt.mpr (mag_nonneg _))

/-- The atom strictly greatest by masked score is strictly greatest by penalised magnitude. -/
theorem Top.penalised {c free pen : Atom → EReal} {p : Atom} (h : Barred free pen)
    (t : Top (fun a => mag (c a * free a)) p) : Top (fun a => mag (c a) - pen a) p := by
  have hp : free p = one := t.free_eq_one h
  have hpen : pen p = 0 := by
    rcases h p with ⟨-, e⟩ | ⟨e, -⟩
    · exact e
    · exact absurd (hp.symm.trans e) (by rw [one_eq, zero_eq]; exact one_ne_zero)
  intro q hq
  have hlt := t q hq
  simp only [hp, one_eq, mul_one] at hlt
  simp only [hpen, sub_zero]
  rcases h q with ⟨hf, e⟩ | ⟨-, e⟩
  · simpa [hf, one_eq, e] using hlt
  · rw [e, EReal.sub_top]
    exact lt_of_lt_of_le EReal.bot_lt_zero (mag_nonneg _)

/-- A free atom is none of the selected. -/
theorem ne_of_select_eq_one {free : Atom → EReal} {p q : Atom} (h : (if q = p then zero else free q) = one) :
    q ≠ p ∧ free q = one := by
  by_cases e : q = p
  · rw [if_pos e, zero_eq, one_eq] at h
    exact absurd h zero_ne_one
  · exact ⟨e, by rwa [if_neg e] at h⟩

end Cert.Pursuit

end
-- ==== Proof.Block.lean ====
/- What the kernel's body computes of one block of signals, as vector operations at the extended reals: five selections,
   each with its row of the Gram matrix, the leaves of the triangular factor column by column, and from the last leaves
   the block's coefficients, its reconstruction and the sum of its squared errors. -/
module

public import proofs.«01_k».proof.Proof.Spec
public import proofs.«01_k».proof.Proof.Gen.KernelIdeal
public import proofs.«01_k».proof.Proof.Gen.KernelIdeal.Skeleton

@[expose] public section

set_option maxRecDepth 16384

noncomputable section

namespace Cert.Block

open Idealize.ShloMosaic Cert.KernelIdeal Cert.KernelIdeal.Gen Cert.Pursuit

/-- One value for each atom and each signal of the block. -/
abbrev Table : Type := FVec Ideal S512x2048 .f32

/-- One value for each signal of the block. -/
abbrev Line : Type := FVec Ideal S1x2048 .f32

/-- One atom for each signal of the block, as a word. -/
abbrev Choice : Type := IVec S1x2048 32

/-- The leaves of each signal of the block. -/
abbrev Factor : Type := S1x2048.Idx → Leaves

/-- The Gram matrix, or a part of it. -/
abbrev Square : Type := FVec Ideal S512x512 .bf16

/-- A line repeated for every atom. -/
def spread (x : Line) : Table := broadcastTo S512x2048 x broadcasts_S1x2048_S512x2048

/-- The bits that say which atom is chosen. -/
def hits (i : Choice) : IVec S512x2048 1 :=
  cmpi .eq (iota .tc S512x2048 32 [0] iota_S512x2048_d0_w32) (broadcastTo S512x2048 i broadcasts_S1x2048_S512x2048)

/-- One at the chosen atom, zero elsewhere. -/
def chosen (i : Choice) : Table := sitofp .f32 (extui 32 (hits i) natLt_1_32)

/-- The atom of the greatest magnitude less penalty. -/
def choose (x pen : Table) : Choice :=
  shapeCast S1x2048 (reduceIndex .argMax 0 S2048 (subf (absf x) pen) reduces_S512x2048_S2048) shapeCasts_S2048_S1x2048

/-- The penalty with the chosen atom added to it. -/
def bar (pen : Table) (i : Choice) : Table :=
  addf pen (mulf (chosen i) (broadcast S512x2048 (Named.named κ "penalty" 0x7149F2CA#32)))

/-- The value at the chosen atom. -/
def valueAt (x : Table) (i : Choice) : Line :=
  shapeCast S1x2048 (multiReduction .add [0] S2048 (mulf (chosen i) x) 0x00000000#32 reduces_S512x2048_S2048 (.inl rfl) rfl)
    shapeCasts_S2048_S1x2048

/-- A matrix at the chosen atom's column. -/
def column (g : Square) (i : Choice) : Table :=
  matmul dot_S512x512_S512x2048_S512x2048_1_0_0_1_n_n none g (truncf .bf16 (chosen i) bitsLt_bf16_f32)
    (constant S512x2048 .f32 0x00000000#32)

/-- No penalty on any atom. -/
def noPenalty : Table := broadcast S512x2048 (Scalar.ofBits .f32 0x00000000#32)

section

variable (b : Table) (g1 g2 g3 : Square)

/-- The Gram matrix at the chosen atom, its three parts added up. -/
def gramRow (i : Choice) : Table := addf (addf (column g1 i) (column g2 i)) (column g3 i)

/-! The five selections. -/

/-- The first selection: the atom of the greatest penalised magnitude. -/
def pick0 : Choice := choose b noPenalty
/-- The Gram row of the first selected atom. -/
def row0 : Table := gramRow g1 g2 g3 (pick0 b)
/-- The penalties once one atom is selected. -/
def pen1 : Table := bar noPenalty (pick0 b)
/-- The leaves of the factor once one atom is selected. -/
def factor1 : Factor := fun j => .start (valueAt b (pick0 b) j)
/-- The residual correlations once one atom is selected. -/
def rest1 : Table := subf b (mulf (spread fun j => (factor1 b j).c10) (row0 b g1 g2 g3))

/-- The second selection: the atom of the greatest penalised magnitude. -/
def pick1 : Choice := choose (rest1 b g1 g2 g3) (pen1 b)
/-- The Gram row of the second selected atom. -/
def row1 : Table := gramRow g1 g2 g3 (pick1 b g1 g2 g3)
/-- The penalties once two atoms are selected. -/
def pen2 : Table := bar (pen1 b) (pick1 b g1 g2 g3)
/-- The leaves of the factor once two atoms are selected. -/
def factor2 : Factor := fun j => (factor1 b j).step1 (valueAt b (pick1 b g1 g2 g3) j)
  (valueAt (row0 b g1 g2 g3) (pick1 b g1 g2 g3) j)
/-- The residual correlations once two atoms are selected. -/
def rest2 : Table := subf b (addf (mulf (spread fun j => (factor2 b g1 g2 g3 j).c20) (row0 b g1 g2 g3))
  (mulf (spread fun j => (factor2 b g1 g2 g3 j).c21) (row1 b g1 g2 g3)))

/-- The third selection: the atom of the greatest penalised magnitude. -/
def pick2 : Choice := choose (rest2 b g1 g2 g3) (pen2 b g1 g2 g3)
/-- The Gram row of the third selected atom. -/
def row2 : Table := gramRow g1 g2 g3 (pick2 b g1 g2 g3)
/-- The penalties once three atoms are selected. -/
def pen3 : Table := bar (pen2 b g1 g2 g3) (pick2 b g1 g2 g3)
/-- The leaves of the factor once three atoms are selected. -/
def factor3 : Factor := fun j => (factor2 b g1 g2 g3 j).step2 (valueAt b (pick2 b g1 g2 g3) j)
  (valueAt (row0 b g1 g2 g3) (pick2 b g1 g2 g3) j) (valueAt (row1 b g1 g2 g3) (pick2 b g1 g2 g3) j)
/-- The residual correlations once three atoms are selected. -/
def rest3 : Table := subf b (addf (addf (mulf (spread fun j => (factor3 b g1 g2 g3 j).c30) (row0 b g1 g2 g3))
  (mulf (spread fun j => (factor3 b g1 g2 g3 j).c31) (row1 b g1 g2 g3)))
  (mulf (spread fun j => (factor3 b g1 g2 g3 j).c32) (row2 b g1 g2 g3)))

/-- The fourth selection: the atom of the greatest penalised magnitude. -/
def pick3 : Choice := choose (rest3 b g1 g2 g3) (pen3 b g1 g2 g3)
/-- The Gram row of the fourth selected atom. -/
def row3 : Table := gramRow g1 g2 g3 (pick3 b g1 g2 g3)
/-- The penalties once four atoms are selected. -/
def pen4 : Table := bar (pen3 b g1 g2 g3) (pick3 b g1 g2 g3)
/-- The leaves of the factor once four atoms are selected. -/
def factor4 : Factor := fun j => (factor3 b g1 g2 g3 j).step3 (valueAt b (pick3 b g1 g2 g3) j)
  (valueAt (row0 b g1 g2 g3) (pick3 b g1 g2 g3) j) (valueAt (row1 b g1 g2 g3) (pick3 b g1 g2 g3) j)
  (valueAt (row2 b g1 g2 g3) (pick3 b g1 g2 g3) j)
/-- The residual correlations once four atoms are selected. -/
def rest4 : Table := subf b (addf (addf (addf (mulf (spread fun j => (factor4 b g1 g2 g3 j).c40) (row0 b g1 g2 g3))
  (mulf (spread fun j => (factor4 b g1 g2 g3 j).c41) (row1 b g1 g2 g3)))
  (mulf (spread fun j => (factor4 b g1 g2 g3 j).c42) (row2 b g1 g2 g3)))
  (mulf (spread fun j => (factor4 b g1 g2 g3 j).c43) (row3 b g1 g2 g3)))

/-- The fifth selection: the atom of the greatest penalised magnitude. -/
def pick4 : Choice := choose (rest4 b g1 g2 g3) (pen4 b g1 g2 g3)
/-- The leaves of the factor once five atoms are selected. -/
def factor5 : Factor := fun j => (factor4 b g1 g2 g3 j).step4 (valueAt b (pick4 b g1 g2 g3) j)
  (valueAt (row0 b g1 g2 g3) (pick4 b g1 g2 g3) j) (valueAt (row1 b g1 g2 g3) (pick4 b g1 g2 g3) j)
  (valueAt (row2 b g1 g2 g3) (pick4 b g1 g2 g3) j) (valueAt (row3 b g1 g2 g3) (pick4 b g1 g2 g3) j)

/-- The block's coefficients: each selected atom's, at that atom. -/
def coefficients : Table :=
  addf (addf (addf (addf (mulf (spread fun j => (factor5 b g1 g2 g3 j).c50) (chosen (pick0 b)))
    (mulf (spread fun j => (factor5 b g1 g2 g3 j).c51) (chosen (pick1 b g1 g2 g3))))
    (mulf (spread fun j => (factor5 b g1 g2 g3 j).c52) (chosen (pick2 b g1 g2 g3))))
    (mulf (spread fun j => (factor5 b g1 g2 g3 j).c53) (chosen (pick3 b g1 g2 g3))))
    (mulf (spread fun j => (factor5 b g1 g2 g3 j).c54) (chosen (pick4 b g1 g2 g3)))

end

/-! ### From the blocks the body loads -/

section

variable (x0 : Vec Ideal S64x2048 .f32) (x1 : Vec Ideal S64x512 .f32) (x2 : Vec Ideal S512x64 .f32)

/-- The block's coefficients. -/
def coefficientsOf : Table := coefficients (k0_pay9 x0 x2) (k0_pay13 x1 x2) (k0_pay14 x1 x2) (k0_pay12 x1 x2)

/-- The block's signals rebuilt from their coefficients. -/
def rebuiltOf : FVec Ideal S64x2048 .f32 :=
  matmul dot_S64x512_S512x2048_S64x2048_1_0_0_1_n_n none (k0_pay6 x1) (coefficientsOf x0 x1 x2)
    (constant S64x2048 .f32 0x00000000#32)

/-- The block's errors. -/
def errorsOf : FVec Ideal S64x2048 .f32 := subf (rebuiltOf x0 x1 x2) (k0_pay5 x0)

/-- The sum of the block's squared errors, row by row and then over the rows. -/
def squaresOf : FVec Ideal S1x1 .f32 :=
  shapeCast S1x1 (multiReduction .add [0] S1 (shapeCast S64x1
    (multiReduction .add [1] S64 (mulf (errorsOf x0 x1 x2) (errorsOf x0 x1 x2)) 0x00000000#32 reduces_S64x2048_S64
      (.inl rfl) rfl) shapeCasts_S64_S64x1) 0x00000000#32 reduces_S64x1_S1 (.inl rfl) rfl) shapeCasts_S1_S1x1

end

end Cert.Block

end
-- ==== Proof.Body.lean ====
/- The kernel's body leaves, in its output buffers, the block's coefficients, its reconstruction, and the running sum of
   squared errors: zero and the block's own at the first point, the point before's and the block's own at the others. -/
module

public import proofs.«01_k».proof.Proof.Block
public import proofs.«01_k».proof.Proof.Gen.KernelIdeal.Frame
public import Idealize.ShloMosaic.Lib.Pipeline.Value

@[expose] public section

set_option maxRecDepth 65536

noncomputable section

namespace Cert.Block

open Idealize.ShloMosaic Idealize.ShloMosaic.TcCoe Idealize.ShloMosaic.Tactic Cert.KernelIdeal Cert.KernelIdeal.Gen

/-- Two zero offsets are the zero offset. -/
theorem hz : (![0, 0] : Fin 2 → Nat) = fun _ => 0 := funext fun a => by fin_cases a <;> rfl

variable (c : Dev nD) (i : grid0.Coords) (a1 : Memref sig .tc .vmem S64x2048 .f32) (h1 : a1.IsWhole)
  (a2 : Memref sig .tc .vmem S64x512 .f32) (h2 : a2.IsWhole) (a3 : Memref sig .tc .vmem S512x64 .f32) (h3 : a3.IsWhole)
  (a4 : Memref sig .tc .vmem S512x2048 .f32) (h4 : a4.IsWhole) (a5 : Memref sig .tc .vmem S64x2048 .f32) (h5 : a5.IsWhole)
  (a6 : Memref sig .tc .vmem S1x1 .f32) (h6 : a6.IsWhole) (x0 : Vec Ideal S64x2048 .f32)
  (x1 : Vec Ideal S64x512 .f32) (x2 : Vec Ideal S512x64 .f32)

/-! What the body's loads of its three input blocks read. -/

/-- The load of the block of signals. -/
def load0 : Vec Ideal S64x2048 .f32 :=
  View.readAt (Elt Ideal) a1.view (Rect.unit ![0, 0] S64x2048.size inb_S64x2048_S64x2048_0_0).toLoadRect (h1.unread x0)
/-- The load of the dictionary. -/
def load1 : Vec Ideal S64x512 .f32 :=
  View.readAt (Elt Ideal) a2.view (Rect.unit ![0, 0] S64x512.size inb_S64x512_S64x512_0_0).toLoadRect (h2.unread x1)
/-- The load of its transpose. -/
def load2 : Vec Ideal S512x64 .f32 :=
  View.readAt (Elt Ideal) a3.view (Rect.unit ![0, 0] S512x64.size inb_S512x64_S512x64_0_0).toLoadRect (h3.unread x2)

/-- The load of the block of signals reads it whole. -/
theorem load0_eq : load0 a1 h1 x0 = x0 := by
  unfold load0
  rw [View.readAt_eq_ld, h1.read_unread, View.ld_unit_zero hz]

/-- The load of the dictionary reads it whole. -/
theorem load1_eq : load1 a2 h2 x1 = x1 := by
  unfold load1
  rw [View.readAt_eq_ld, h2.read_unread, View.ld_unit_zero hz]

/-- The load of its transpose reads it whole. -/
theorem load2_eq : load2 a3 h3 x2 = x2 := by
  unfold load2
  rw [View.readAt_eq_ld, h3.read_unread, View.ld_unit_zero hz]

/-- The coefficients the body leaves at the first point. -/
theorem coefficients_A (hc : cond0_0 i) : out0_A_3 c i a1 h1 a2 h2 a3 h3 a4 h4 a5 h5 a6 h6 hc x0 x1 x2 = coefficientsOf x0 x1 x2 := by
  unfold out0_A_3
  rw [View.read_writes_eq_canon _ _ _ (cover0_A_3 c i a1 h1 a2 h2 a3 h3 a4 h4 a5 h5 a6 h6 hc x0 x1 x2)]
  refine Eq.trans (b := View.canon [⟨Rect.unit ![0, 0] S512x2048.size inb_S512x2048_S512x2048_0_0,
    coefficientsOf (load0 a1 h1 x0) (load1 a2 h2 x1) (load2 a3 h3 x2)⟩]) (by sl_kernel_rfl) ?_
  rw [View.canon_unit_zero hz, load0_eq, load1_eq, load2_eq]

/-- The reconstruction the body leaves at the first point. -/
theorem rebuilt_A (hc : cond0_0 i) : out0_A_4 c i a1 h1 a2 h2 a3 h3 a4 h4 a5 h5 a6 h6 hc x0 x1 x2 = rebuiltOf x0 x1 x2 := by
  unfold out0_A_4
  rw [View.read_writes_eq_canon _ _ _ (cover0_A_4 c i a1 h1 a2 h2 a3 h3 a4 h4 a5 h5 a6 h6 hc x0 x1 x2)]
  refine Eq.trans (b := View.canon [⟨Rect.unit ![0, 0] S64x2048.size inb_S64x2048_S64x2048_0_0,
    rebuiltOf (load0 a1 h1 x0) (load1 a2 h2 x1) (load2 a3 h3 x2)⟩]) (by sl_kernel_rfl) ?_
  rw [View.canon_unit_zero hz, load0_eq, load1_eq, load2_eq]

/-- The coefficients the body leaves at the other points. -/
theorem coefficients_B (hc : ¬cond0_0 i) (xo : Vec Ideal S1x1 .f32) : out0_B_3 c i a1 h1 a2 h2 a3 h3 a4 h4 a5 h5 a6 h6 hc x0 x1 x2 xo = coefficientsOf x0 x1 x2 := by
  unfold out0_B_3
  rw [View.read_writes_eq_canon _ _ _ (cover0_B_3 c i a1 h1 a2 h2 a3 h3 a4 h4 a5 h5 a6 h6 hc x0 x1 x2 xo)]
  refine Eq.trans (b := View.canon [⟨Rect.unit ![0, 0] S512x2048.size inb_S512x2048_S512x2048_0_0,
    coefficientsOf (load0 a1 h1 x0) (load1 a2 h2 x1) (load2 a3 h3 x2)⟩]) (by sl_kernel_rfl) ?_
  rw [View.canon_unit_zero hz, load0_eq, load1_eq, load2_eq]

/-- The reconstruction the body leaves at the other points. -/
theorem rebuilt_B (hc : ¬cond0_0 i) (xo : Vec Ideal S1x1 .f32) : out0_B_4 c i a1 h1 a2 h2 a3 h3 a4 h4 a5 h5 a6 h6 hc x0 x1 x2 xo = rebuiltOf x0 x1 x2 := by
  unfold out0_B_4
  rw [View.read_writes_eq_canon _ _ _ (cover0_B_4 c i a1 h1 a2 h2 a3 h3 a4 h4 a5 h5 a6 h6 hc x0 x1 x2 xo)]
  refine Eq.trans (b := View.canon [⟨Rect.unit ![0, 0] S64x2048.size inb_S64x2048_S64x2048_0_0,
    rebuiltOf (load0 a1 h1 x0) (load1 a2 h2 x1) (load2 a3 h3 x2)⟩]) (by sl_kernel_rfl) ?_
  rw [View.canon_unit_zero hz, load0_eq, load1_eq, load2_eq]

/-- The zero the running sum starts from. -/
def start : Vec Ideal S1x1 .f32 := k0_pay3 (F := Ideal)

/-- The running sum the body leaves at the first point: zero and the block's squared errors. -/
theorem squares_A (hc : cond0_0 i) : out0_A_5 c i a1 h1 a2 h2 a3 h3 a4 h4 a5 h5 a6 h6 hc x0 x1 x2
    = addf start (squaresOf x0 x1 x2) := by
  unfold out0_A_5
  rw [View.read_writes_eq_canon _ _ _ (cover0_A_5 c i a1 h1 a2 h2 a3 h3 a4 h4 a5 h5 a6 h6 hc x0 x1 x2)]
  refine Eq.trans (b := View.canon [⟨Rect.unit ![0, 0] S1x1.size inb_S1x1_S1x1_0_0,
    addf (shapeCast S1x1 (a6.view.readCov [(⟨Rect.unit ![0, 0] S1x1.size inb_S1x1_S1x1_0_0, start⟩ : View.Piece (Elt Ideal) S1x1 .f32)]
        (Rect.unit ![0, 0] S1x1.size inb_S1x1_S1x1_0_0).toLoadRect) shapeCasts_S1x1_S1x1)
      (squaresOf (load0 a1 h1 x0) (load1 a2 h2 x1) (load2 a3 h3 x2))⟩,
    ⟨Rect.unit ![0, 0] S1x1.size inb_S1x1_S1x1_0_0, start⟩]) (by sl_kernel_rfl) ?_
  rw [View.canon_cons_unit_zero hz, View.readCov_unit_zero _ hz, load0_eq, load1_eq, load2_eq, shapeCast_self]

/-- The running sum the body leaves at the other points: what it found there and the block's squared errors. -/
theorem squares_B (hc : ¬cond0_0 i) (xo : Vec Ideal S1x1 .f32) :
    out0_B_5 c i a1 h1 a2 h2 a3 h3 a4 h4 a5 h5 a6 h6 hc x0 x1 x2 xo = addf xo (squaresOf x0 x1 x2) := by
  unfold out0_B_5
  rw [View.read_writes_eq_canon _ _ _ (cover0_B_5 c i a1 h1 a2 h2 a3 h3 a4 h4 a5 h5 a6 h6 hc x0 x1 x2 xo)]
  refine Eq.trans (b := View.canon [⟨Rect.unit ![0, 0] S1x1.size inb_S1x1_S1x1_0_0,
    addf (shapeCast S1x1 (View.readAt (Elt Ideal) a6.view (Rect.unit ![0, 0] S1x1.size inb_S1x1_S1x1_0_0).toLoadRect
        (h6.unread xo)) shapeCasts_S1x1_S1x1)
      (squaresOf (load0 a1 h1 x0) (load1 a2 h2 x1) (load2 a3 h3 x2))⟩]) (by sl_kernel_rfl) ?_
  rw [View.canon_unit_zero hz, View.readAt_eq_ld, h6.read_unread, View.ld_unit_zero hz, load0_eq, load1_eq, load2_eq,
    shapeCast_self]

end Cert.Block

end
-- ==== Proof.Signals.lean ====
/- What the reference computes of all signals at once, as host operations at the extended reals: the dictionary with its
   atoms scaled to unit length, its Gram matrix, the correlations, the five selections with the scores they are made by,
   the leaves of the triangular factor signal by signal, and the three results. -/
module

public import proofs.«01_k».proof.Proof.Spec
public import proofs.«01_k».proof.Proof.Gen.ReferenceIdeal
public import proofs.«01_k».proof.Proof.Gen.ReferenceIdeal.Run

@[expose] public section

set_option maxRecDepth 16384

noncomputable section

namespace Cert.Signals

open Idealize.ShloMosaic Cert.ReferenceIdeal Cert.ReferenceIdeal.Gen Cert.Pursuit

/-- One value for each signal and each atom. -/
abbrev Table : Type := FVec Ideal S16384x512 .f32

/-- One value for each signal. -/
abbrev Line : Type := FVec Ideal S16384 .f32

/-- One atom for each signal, as a word. -/
abbrev Choice : Type := IVec S16384 32

/-- The leaves of each signal. -/
abbrev Factor : Type := S16384.Idx → Leaves

/-- A line repeated for every atom. -/
def spread {α : Type} (x : S16384.Idx → α) : S16384x512.Idx → α :=
  broadcastInDim S16384x512 ![0, 1] bcast_S16384x1_S16384x512_0_1 (broadcastInDim S16384x1 ![0] bcast_S16384_S16384x1_0 x)

/-- One constant for each signal and each atom. -/
def fill {α : Type} (x : S_.Idx → α) : S16384x512.Idx → α := broadcastInDim S16384x512 ![] bcast_S_S16384x512 x

/-- The bits that say which scores are the greatest of their signal's. -/
def greatest (s : Table) : IVec S16384x512 1 :=
  cmpf .oeq s (spread (Host.reduce FloatOps.maximumf s (constant S_ .f32 0xFF800000#32) reducesTo_S16384x512_S16384_d1 h_S_))

/-- The first atom of the greatest score. -/
def choose (s : Table) : Choice :=
  Host.reduce IntOp.minsi (select (greatest s) (iotaInDim S16384x512 32 1) (fill (constantI S_ 32 512#32)))
    (constantI S_ 32 2147483647#32) reducesTo_S16384x512_S16384_d1 h_S_

/-- The bits that say which atom is chosen. -/
def hits (i : Choice) : IVec S16384x512 1 := cmpi .eq (iotaInDim S16384x512 32 1) (spread i)

/-- The mask with the chosen atom taken off it. -/
def drop (free : Table) (i : Choice) : Table := select (hits i) (fill (constant S_ .f32 0x00000000#32)) free

/-- The choice in the form a gather along the second axis takes it, negative words counted from the end. -/
def place (i : Choice) : IVec S16384x1x1 32 :=
  shapeCast S16384x1x1 (select
    (cmpi .slt (broadcastInDim S16384x1 ![0] bcast_S16384_S16384x1_0 i) (broadcastInDim S16384x1 ![] bcast_S_S16384x1 (constantI S_ 32 0#32)))
    (addi (broadcastInDim S16384x1 ![0] bcast_S16384_S16384x1_0 i) (broadcastInDim S16384x1 ![] bcast_S_S16384x1 (constantI S_ 32 512#32)))
    (broadcastInDim S16384x1 ![0] bcast_S16384_S16384x1_0 i)) shapeCasts_S16384x1_S16384x1x1

/-- The value at the chosen atom. -/
def valueAt (x : Table) (i : Choice) : Line :=
  shapeCast S16384 (Host.gather gather_S16384x512_S16384x1x1_S16384x1_n_1_0_0_1_2_11 x (place i)) shapeCasts_S16384x1_S16384

/-- The score of each atom: the magnitude of its masked residual correlation. -/
def score (x free : Table) : Table := Host.absf (mulf x free)

section

variable (b : Table) (g : FVec Ideal S512x512 .f32)

/-- The Gram matrix at the chosen atom's row. -/
def gramRow (i : Choice) : Table :=
  Host.gather gather_S512x512_S16384x1_S16384x512_1_0_n_n_0_1_1512 g (broadcastInDim S16384x1 ![0] bcast_S16384_S16384x1_0 i)

/-- The zero a sum of rows starts from. -/
def none : Table := fill (constant S_ .f32 0x00000000#32)

/-! The five selections. -/

/-- The mask before any selection. -/
def free0 : Table := fill (constant S_ .f32 0x3F800000#32)
/-- The scores of the first selection. -/
def score0 : Table := score b free0
/-- The first selection: the first atom of the greatest score. -/
def pick0 : Choice := choose (score0 b)
/-- The Gram row of the first selected atom. -/
def row0 : Table := gramRow g (pick0 b)
/-- The mask after the first selection. -/
def free1 : Table := drop free0 (pick0 b)
/-- The leaves of the factor after the first selection. -/
def factor1 : Factor := fun j => .start (valueAt b (pick0 b) j)
/-- The residual correlations after the first selection. -/
def rest1 : Table := subf b (addf none (mulf (spread fun j => (factor1 b j).c10) (row0 b g)))

/-- The scores of the second selection. -/
def score1 : Table := score (rest1 b g) (free1 b)
/-- The second selection: the first atom of the greatest score. -/
def pick1 : Choice := choose (score1 b g)
/-- The Gram row of the second selected atom. -/
def row1 : Table := gramRow g (pick1 b g)
/-- The mask after the second selection. -/
def free2 : Table := drop (free1 b) (pick1 b g)
/-- The leaves of the factor after the second selection. -/
def factor2 : Factor := fun j => (factor1 b j).step1 (valueAt b (pick1 b g) j) (valueAt (row0 b g) (pick1 b g) j)
/-- The residual correlations after the second selection. -/
def rest2 : Table := subf b (addf (addf none (mulf (spread fun j => (factor2 b g j).c20) (row0 b g)))
  (mulf (spread fun j => (factor2 b g j).c21) (row1 b g)))

/-- The scores of the third selection. -/
def score2 : Table := score (rest2 b g) (free2 b g)
/-- The third selection: the first atom of the greatest score. -/
def pick2 : Choice := choose (score2 b g)
/-- The Gram row of the third selected atom. -/
def row2 : Table := gramRow g (pick2 b g)
/-- The mask after the third selection. -/
def free3 : Table := drop (free2 b g) (pick2 b g)
/-- The leaves of the factor after the third selection. -/
def factor3 : Factor := fun j => (factor2 b g j).step2 (valueAt b (pick2 b g) j) (valueAt (row0 b g) (pick2 b g) j)
  (valueAt (row1 b g) (pick2 b g) j)
/-- The residual correlations after the third selection. -/
def rest3 : Table := subf b (addf (addf (addf none (mulf (spread fun j => (factor3 b g j).c30) (row0 b g)))
  (mulf (spread fun j => (factor3 b g j).c31) (row1 b g))) (mulf (spread fun j => (factor3 b g j).c32) (row2 b g)))

/-- The scores of the fourth selection. -/
def score3 : Table := score (rest3 b g) (free3 b g)
/-- The fourth selection: the first atom of the greatest score. -/
def pick3 : Choice := choose (score3 b g)
/-- The Gram row of the fourth selected atom. -/
def row3 : Table := gramRow g (pick3 b g)
/-- The mask after the fourth selection. -/
def free4 : Table := drop (free3 b g) (pick3 b g)
/-- The leaves of the factor after the fourth selection. -/
def factor4 : Factor := fun j => (factor3 b g j).step3 (valueAt b (pick3 b g) j) (valueAt (row0 b g) (pick3 b g) j)
  (valueAt (row1 b g) (pick3 b g) j) (valueAt (row2 b g) (pick3 b g) j)
/-- The residual correlations after the fourth selection. -/
def rest4 : Table := subf b (addf (addf (addf (addf none (mulf (spread fun j => (factor4 b g j).c40) (row0 b g)))
  (mulf (spread fun j => (factor4 b g j).c41) (row1 b g))) (mulf (spread fun j => (factor4 b g j).c42) (row2 b g)))
  (mulf (spread fun j => (factor4 b g j).c43) (row3 b g)))

/-- The scores of the fifth selection. -/
def score4 : Table := score (rest4 b g) (free4 b g)
/-- The fifth selection: the first atom of the greatest score. -/
def pick4 : Choice := choose (score4 b g)
/-- The leaves of the factor after the fifth selection. -/
def factor5 : Factor := fun j => (factor4 b g j).step4 (valueAt b (pick4 b g) j) (valueAt (row0 b g) (pick4 b g) j)
  (valueAt (row1 b g) (pick4 b g) j) (valueAt (row2 b g) (pick4 b g) j) (valueAt (row3 b g) (pick4 b g) j)

/-- The coefficients, signal by signal: each selected atom's, at that atom. -/
def coefficients : Table :=
  select (hits (pick4 b g)) (spread fun j => (factor5 b g j).c54) <|
  select (hits (pick3 b g)) (spread fun j => (factor5 b g j).c53) <|
  select (hits (pick2 b g)) (spread fun j => (factor5 b g j).c52) <|
  select (hits (pick1 b g)) (spread fun j => (factor5 b g j).c51) <|
  select (hits (pick0 b)) (spread fun j => (factor5 b g j).c50) none

end

/-! ### From the arguments -/

section

variable (z : FVec Ideal S16x64x32x32 .f32) (w : FVec Ideal S64x512 .f32)

/-- The signals' array with its channels last. -/
def channelsLast : FVec Ideal S16x32x32x64 .f32 :=
  transpose S16x32x32x64 [0, 2, 3, 1] z transposes_S16x64x32x32_S16x32x32x64_0_2_3_1

/-- The signals, one to a column, as the reference lays them out. -/
def signals : FVec Ideal S64x16384 .f32 := shapeCast S64x16384 (channelsLast z) shapeCasts_S16x32x32x64_S64x16384

/-- The dictionary with its atoms scaled to unit length. -/
def dictionary : FVec Ideal S64x512 .f32 :=
  Host.divf w (broadcastInDim S64x512 ![0, 1] bcast_S1x512_S64x512_0_1 (broadcastInDim S1x512 ![1] bcast_S512_S1x512_1
    (Host.sqrt (Host.reduceAdd (mulf w w) (constant S_ .f32 0x00000000#32) reducesTo_S64x512_S512_d0 h_S_))))

/-- The dictionary, one atom to a row. -/
def dictionaryT : FVec Ideal S512x64 .f32 := transpose S512x64 [1, 0] (dictionary w) transposes_S64x512_S512x64_1_0

/-- The Gram matrix of the atoms. -/
def gram : FVec Ideal S512x512 .f32 :=
  Host.dotGeneral dot_S512x64_S64x512_S512x512_1_0_0_1_n_n Option.none (dictionaryT w) (dictionary w)

/-- The correlations of the signals with the atoms. -/
def corr : Table :=
  transpose S16384x512 [1, 0] (Host.dotGeneral dot_S512x64_S64x16384_S512x16384_1_0_0_1_n_n Option.none (dictionaryT w) (signals z))
    transposes_S512x16384_S16384x512_1_0

/-- The coefficients, one signal to a column: the third result. -/
def codes : FVec Ideal S512x16384 .f32 :=
  transpose S512x16384 [1, 0] (coefficients (corr z w) (gram w)) transposes_S16384x512_S512x16384_1_0

/-- The signals rebuilt from their coefficients, in the layout of the argument with its channels last. -/
def rebuilt : FVec Ideal S16x32x32x64 .f32 :=
  shapeCast S16x32x32x64 (Host.dotGeneral dot_S64x512_S512x16384_S64x16384_1_0_0_1_n_n Option.none (dictionary w) (codes z w))
    shapeCasts_S64x16384_S16x32x32x64

/-- The rebuilt signals less the signals. -/
def errors : FVec Ideal S16x32x32x64 .f32 := subf (rebuilt z w) (channelsLast z)

/-- The first result: the signals and their errors added up, in the argument's layout. -/
def straightThrough : FVec Ideal S16x64x32x32 .f32 :=
  transpose S16x64x32x32 [0, 3, 1, 2] (addf (channelsLast z) (errors z w)) transposes_S16x32x32x64_S16x64x32x32_0_3_1_2

/-- The mean squared error. -/
def meanSquare : FVec Ideal S_ .f32 :=
  Host.divf (Host.reduceAdd (mulf (errors z w) (errors z w)) (constant S_ .f32 0x00000000#32) reducesTo_S16x32x32x64_S_d0_1_2_3 h_S_)
    (constant S_ .f32 0x49800000#32)

/-- The second result: a quarter of the mean squared error and the mean squared error. -/
def loss : FVec Ideal S_ .f32 := addf (mulf (constant S_ .f32 0x3E800000#32) (meanSquare z w)) (meanSquare z w)

end

end Cert.Signals

end
-- ==== Proof.Arrays.lean ====
/- What the kernel's arrays hold: what the launch finds in its three input arrays, and what its three output arrays hold
   when it ends, block by block for the coefficients and the reconstruction, and the sum over the blocks for the squared
   errors. -/
module

public import proofs.«01_k».proof.Proof.Body
public import proofs.«01_k».proof.Proof.Signals
public import Idealize.ShloMosaic.Lib.Claim
public import Idealize.ShloMosaic.Lib.ValueIdx

@[expose] public section

set_option maxRecDepth 16384

noncomputable section

namespace Cert.Arrays

open Idealize.ShloMosaic Idealize.ShloMosaic.TcCoe Idealize.ShloMosaic.ValueIdx Idealize.ShloMosaic.StableHlo
  Idealize.SL.Sem Cert.KernelIdeal Cert.KernelIdeal.Gen Cert.Block
open Idealize.ShloMosaic.Pipeline (Dat)

variable (m : (ℓ : Loc nD τ sig) → Buf (Elt Ideal) ℓ) (ρ : Dev nD → PrngReg) (c : Dev nD)

/-! ### The input arrays -/

/-- The signals, one to a column. -/
theorem signals_eq : V m c main_v1 = Signals.signals (m ((c.tc : Thread nD τ).loc main_arg0)) := by
  unfold V V0 hostOps0 hostOps0_1 hostOps0_2
  simp only [List.flatten_cons, List.flatten_nil, List.cons_append, List.nil_append, List.append_nil]
  after_results
  rfl

/-- The scaled dictionary. -/
theorem dictionary_eq : V m c main_v5 = Signals.dictionary (m ((c.tc : Thread nD τ).loc main_arg1)) := by
  unfold V V0 hostOps0 hostOps0_1 hostOps0_2
  simp only [List.flatten_cons, List.flatten_nil, List.cons_append, List.nil_append, List.append_nil]
  after_results
  rfl

/-- The scaled dictionary, one atom to a row. -/
theorem dictionaryT_eq : V m c main_v6 = Signals.dictionaryT (m ((c.tc : Thread nD τ).loc main_arg1)) := by
  unfold V V0 hostOps0 hostOps0_1 hostOps0_2
  simp only [List.flatten_cons, List.flatten_nil, List.cons_append, List.nil_append, List.append_nil]
  after_results
  rfl

/-! ### The blocks the body reads -/

/-- Block `t` of a signal array: columns `2048 t` to `2048 t + 2047`. -/
def blockOf (x : FVec Ideal S64x16384 .f32) (t : ℕ) (ht : t < 8) : Vec Ideal S64x2048 .f32 := fun k =>
  x (ix2 (k 0) ⟨2048 * t + (k 1).val, by have h : (k 1).val < 2048 := (k 1).isLt; omega⟩)

/-- There are eight grid points. -/
theorem lt_points (t : Fin cfg0.N) : t.val < 8 := t.isLt.trans_eq N_0

/-- The signals come block after block of columns. -/
theorem index0 (t : Fin cfg0.N) : win0_0.index t 0 = 0 ∧ win0_0.index t 1 = t.val := by
  rcases fin_N0 t with rfl | rfl | rfl | rfl | rfl | rfl | rfl | rfl <;> decide

/-- The dictionary comes whole at every point. -/
theorem index1 (t : Fin cfg0.N) : win0_1.index t 0 = 0 ∧ win0_1.index t 1 = 0 := by
  rcases fin_N0 t with rfl | rfl | rfl | rfl | rfl | rfl | rfl | rfl <;> decide

/-- Its transpose comes whole at every point. -/
theorem index2 (t : Fin cfg0.N) : win0_2.index t 0 = 0 ∧ win0_2.index t 1 = 0 := by
  rcases fin_N0 t with rfl | rfl | rfl | rfl | rfl | rfl | rfl | rfl <;> decide

/-- The coefficients leave block after block of columns. -/
theorem index3 (t : Fin cfg0.N) : win0_3.index t 0 = 0 ∧ win0_3.index t 1 = t.val := by
  rcases fin_N0 t with rfl | rfl | rfl | rfl | rfl | rfl | rfl | rfl <;> decide

/-- The reconstruction leaves block after block of columns. -/
theorem index4 (t : Fin cfg0.N) : win0_4.index t 0 = 0 ∧ win0_4.index t 1 = t.val := by
  rcases fin_N0 t with rfl | rfl | rfl | rfl | rfl | rfl | rfl | rfl <;> decide

/-- What a point reads of the signals is their block. -/
theorem read0 (t : Fin cfg0.N) : (iblk m c 0 t : Vec Ideal S64x2048 .f32) = blockOf (V m c main_v1) t.val (lt_points t) := by
  funext k
  unfold iblk blockOf
  rw [View.read_apply]
  show V m c main_v1 _ = V m c main_v1 _
  congr 1
  funext a
  apply Fin.ext
  match a with
  | ⟨0, _⟩ => show win0_0.index t 0 * 64 + 1 * (k 0).val = (k 0).val; rw [(index0 t).1]; omega
  | ⟨1, _⟩ => show win0_0.index t 1 * 2048 + 1 * (k 1).val = 2048 * t.val + (k 1).val; rw [(index0 t).2]; omega

/-- What a point reads of the dictionary is the dictionary. -/
theorem read1 (t : Fin cfg0.N) : (iblk m c 1 t : Vec Ideal S64x512 .f32) = V m c main_v5 := by
  funext k
  unfold iblk
  rw [View.read_apply]
  show V m c main_v5 _ = V m c main_v5 _
  congr 1
  funext a
  apply Fin.ext
  match a with
  | ⟨0, _⟩ => show win0_1.index t 0 * 64 + 1 * (k 0).val = (k 0).val; rw [(index1 t).1]; omega
  | ⟨1, _⟩ => show win0_1.index t 1 * 512 + 1 * (k 1).val = (k 1).val; rw [(index1 t).2]; omega

/-- What a point reads of its transpose is the transpose. -/
theorem read2 (t : Fin cfg0.N) : (iblk m c 2 t : Vec Ideal S512x64 .f32) = V m c main_v6 := by
  funext k
  unfold iblk
  rw [View.read_apply]
  show V m c main_v6 _ = V m c main_v6 _
  congr 1
  funext a
  apply Fin.ext
  match a with
  | ⟨0, _⟩ => show win0_2.index t 0 * 512 + 1 * (k 0).val = (k 0).val; rw [(index2 t).1]; omega
  | ⟨1, _⟩ => show win0_2.index t 1 * 64 + 1 * (k 1).val = (k 1).val; rw [(index2 t).2]; omega

/-! ### The output arrays -/

/-- Every column lies in one of the eight blocks. -/
theorem point_lt (n : Fin 16384) : n.val / 2048 < 8 := by have := n.isLt; omega

/-- An array of `16384` columns from blocks of `2048`. -/
def assemble {r : ℕ} (f : (t : ℕ) → t < 8 → FVec Ideal ⟨2, ![r, 2048]⟩ .f32) : FVec Ideal ⟨2, ![r, 16384]⟩ .f32 := fun i =>
  f ((i 1).val / 2048) (point_lt (i 1)) (ix2 (i 0) ⟨(i 1).val % 2048, Nat.mod_lt _ (by norm_num)⟩)

/-- Such an array at a place of a block. -/
theorem assemble_apply {r : ℕ} (f : (t : ℕ) → t < 8 → FVec Ideal ⟨2, ![r, 2048]⟩ .f32) (i : (⟨2, ![r, 16384]⟩ : Shape).Idx)
    (t : ℕ) (ht : t < 8) (k : (⟨2, ![r, 2048]⟩ : Shape).Idx) (h0 : (i 0).val = (k 0).val)
    (h1 : (i 1).val = 2048 * t + (k 1).val) : assemble f i = f t ht k := by
  have hk : (k 1).val < 2048 := (k 1).isLt
  have hd : (i 1).val / 2048 = t := by omega
  have hi : ix2 (i 0) ⟨(i 1).val % 2048, Nat.mod_lt _ (by norm_num)⟩ = k := by
    funext a
    match a with
    | ⟨0, _⟩ => exact Fin.ext h0
    | ⟨1, _⟩ => exact Fin.ext (show (i 1).val % 2048 = (k 1).val by omega)
  have key : ∀ (t' : ℕ) (ht' : t' < 8) (k' : (⟨2, ![r, 2048]⟩ : Shape).Idx), t' = t → k' = k → f t' ht' k' = f t ht k := by
    rintro _ _ _ rfl rfl; rfl
  exact key _ _ _ hd hi

section

variable (x : FVec Ideal S64x16384 .f32) (d : FVec Ideal S64x512 .f32) (e : FVec Ideal S512x64 .f32)

/-- The coefficients of all signals, block by block. -/
def coefficientArray : FVec Ideal S512x16384 .f32 := assemble fun t ht => coefficientsOf (blockOf x t ht) d e

/-- The reconstructions of all signals, block by block. -/
def rebuiltArray : FVec Ideal S64x16384 .f32 := assemble fun t ht => rebuiltOf (blockOf x t ht) d e

/-- The squared errors of the first blocks, added up block after block. -/
def squaresUpTo : (n : ℕ) → n < 8 → FVec Ideal S1x1 .f32
  | 0, h => addf Block.start (squaresOf (blockOf x 0 h) d e)
  | n + 1, h => addf (squaresUpTo n (Nat.lt_of_succ_lt h)) (squaresOf (blockOf x (n + 1) h) d e)

end

/-- What the body leaves at a point: the block's coefficients, its reconstruction, and the squares so far. -/
theorem outsAt_eq : ∀ (n : ℕ) (h : n < cfg0.N),
    outsAt0 m c n h = (coefficientsOf (iblk m c 0 ⟨n, h⟩) (iblk m c 1 ⟨n, h⟩) (iblk m c 2 ⟨n, h⟩),
      rebuiltOf (iblk m c 0 ⟨n, h⟩) (iblk m c 1 ⟨n, h⟩) (iblk m c 2 ⟨n, h⟩),
      squaresUpTo (V m c main_v1) (V m c main_v5) (V m c main_v6) n (lt_points ⟨n, h⟩))
  | 0, h => by
    refine (outsAt0_A m c ⟨0, h⟩ rfl).trans ?_
    rw [coefficients_A, rebuilt_A, squares_A, read0, read1, read2]
    rfl
  | n + 1, h => by
    have hB : ¬(⟨n + 1, h⟩ : Fin cfg0.N).val % 8 = 0 := by have := lt_points ⟨n + 1, h⟩; dsimp only at this ⊢; omega
    refine (outsAt0_B m c ⟨n + 1, h⟩ hB).trans ?_
    have ih := outsAt_eq n (Nat.lt_of_succ_lt h)
    rw [coefficients_B, rebuilt_B, squares_B, read0, read1, read2]
    show (_, _, addf (F := Ideal) (s := S1x1) (φ := .f32) (outsAt0 m c n _).2.2 _) = _
    rw [ih]
    rfl

/-- The coefficients' array at the end. -/
theorem final_coefficients : (dats m 0 c).arrAt 3 cfg0.N
    = coefficientArray (V m c main_v1) (V m c main_v5) (V m c main_v6) :=
  (dats m 0 c).arrAt_eq_of_cover 3 (coefficientArray (V m c main_v1) (V m c main_v5) (V m c main_v6)) (fun t _ => by
    show (cfg0.win 3).cut (grid0.coords t) ((dats m 0 c).after 3 t) = _
    rw [after0_3, outsAt_eq, read0, read1, read2]
    funext k
    rw [View.read_apply]
    refine (assemble_apply (r := 512) (fun t ht => coefficientsOf (blockOf (V m c main_v1) t ht) (V m c main_v5) (V m c main_v6))
      (((cfg0.win 3).blk t).view.emb k) t.val (lt_points t) k ?_ ?_).symm
    · show win0_3.index t 0 * 512 + 1 * (k 0).val = (k 0).val
      rw [(index3 t).1]; omega
    · show win0_3.index t 1 * 2048 + 1 * (k 1).val = 2048 * t.val + (k 1).val
      rw [(index3 t).2]; omega) fun i => by
  have h0 : (i 0 : Nat) < 512 := (i 0).isLt
  have h1 : (i 1 : Nat) < 16384 := (i 1).isLt
  have ht : (i 1 : Nat) / 2048 < cfg0.N := by rw [show cfg0.N = 8 from N_0]; omega
  refine ⟨⟨(i 1 : Nat) / 2048, ht⟩, flush0_3 _, ?_⟩
  show i ∈ ((View.whole main_v7_0).slice (win0_3.rect ⟨(i 1 : Nat) / 2048, ht⟩)).set
  rw [View.set_slice_whole, Rect.mem_set_unit]
  intro a
  match a with
  | ⟨0, _⟩ =>
    show win0_3.index ⟨(i 1 : Nat) / 2048, ht⟩ 0 * 512 ≤ (i 0 : Nat) ∧ (i 0 : Nat) < win0_3.index ⟨(i 1 : Nat) / 2048, ht⟩ 0 * 512 + 512
    rw [(index3 _).1]; omega
  | ⟨1, _⟩ =>
    show win0_3.index ⟨(i 1 : Nat) / 2048, ht⟩ 1 * 2048 ≤ (i 1 : Nat) ∧ (i 1 : Nat) < win0_3.index ⟨(i 1 : Nat) / 2048, ht⟩ 1 * 2048 + 2048
    rw [(index3 _).2]; dsimp only; omega

/-- The reconstruction's array at the end. -/
theorem final_rebuilt : (dats m 0 c).arrAt 4 cfg0.N
    = rebuiltArray (V m c main_v1) (V m c main_v5) (V m c main_v6) :=
  (dats m 0 c).arrAt_eq_of_cover 4 (rebuiltArray (V m c main_v1) (V m c main_v5) (V m c main_v6)) (fun t _ => by
    show (cfg0.win 4).cut (grid0.coords t) ((dats m 0 c).after 4 t) = _
    rw [after0_4, outsAt_eq, read0, read1, read2]
    funext k
    rw [View.read_apply]
    refine (assemble_apply (r := 64) (fun t ht => rebuiltOf (blockOf (V m c main_v1) t ht) (V m c main_v5) (V m c main_v6))
      (((cfg0.win 4).blk t).view.emb k) t.val (lt_points t) k ?_ ?_).symm
    · show win0_4.index t 0 * 64 + 1 * (k 0).val = (k 0).val
      rw [(index4 t).1]; omega
    · show win0_4.index t 1 * 2048 + 1 * (k 1).val = 2048 * t.val + (k 1).val
      rw [(index4 t).2]; omega) fun i => by
  have h0 : (i 0 : Nat) < 64 := (i 0).isLt
  have h1 : (i 1 : Nat) < 16384 := (i 1).isLt
  have ht : (i 1 : Nat) / 2048 < cfg0.N := by rw [show cfg0.N = 8 from N_0]; omega
  refine ⟨⟨(i 1 : Nat) / 2048, ht⟩, flush0_4 _, ?_⟩
  show i ∈ ((View.whole main_v7_1).slice (win0_4.rect ⟨(i 1 : Nat) / 2048, ht⟩)).set
  rw [View.set_slice_whole, Rect.mem_set_unit]
  intro a
  match a with
  | ⟨0, _⟩ =>
    show win0_4.index ⟨(i 1 : Nat) / 2048, ht⟩ 0 * 64 ≤ (i 0 : Nat) ∧ (i 0 : Nat) < win0_4.index ⟨(i 1 : Nat) / 2048, ht⟩ 0 * 64 + 64
    rw [(index4 _).1]; omega
  | ⟨1, _⟩ =>
    show win0_4.index ⟨(i 1 : Nat) / 2048, ht⟩ 1 * 2048 ≤ (i 1 : Nat) ∧ (i 1 : Nat) < win0_4.index ⟨(i 1 : Nat) / 2048, ht⟩ 1 * 2048 + 2048
    rw [(index4 _).2]; dsimp only; omega

/-- The squared errors of all signals. -/
abbrev squares (x : FVec Ideal S64x16384 .f32) (d : FVec Ideal S64x512 .f32) (e : FVec Ideal S512x64 .f32) :
    FVec Ideal S1x1 .f32 := squaresUpTo x d e 7 (by norm_num)

/-- The squared errors' array at the end. -/
theorem final_squares : (dats m 0 c).arrAt 5 cfg0.N = squares (V m c main_v1) (V m c main_v5) (V m c main_v6) :=
  (dats m 0 c).arrAt_eq_of_cover 5 (squares (V m c main_v1) (V m c main_v5) (V m c main_v6)) (fun t hf => by
    have h7 : t.val = 7 := by have := (flush0_5 t).mp hf; have := lt_points t; omega
    obtain rfl : t = t0_7 := Fin.ext h7
    show (cfg0.win 5).cut (grid0.coords t0_7) ((dats m 0 c).after 5 t0_7) = _
    rw [after0_5, outsAt_eq]
    have hz' : (fun a => win0_5.index t0_7 a * main_v7_2.ty.shape.size a) = fun _ => 0 :=
      funext fun a => by fin_cases a <;> decide
    exact (Memref.read_access_unit_zero (Elt Ideal) main_v7_2 hz' (fun a => by rw [congrFun hz' a]; simp)
      (squares (V m c main_v1) (V m c main_v5) (V m c main_v6))).symm) fun i =>
    ⟨t0_7, (flush0_5 t0_7).mpr rfl, by
      show i ∈ ((View.whole main_v7_2).slice (win0_5.rect t0_7)).set
      rw [View.set_slice_whole, Rect.mem_set_unit]
      intro a
      have h0 : (i 0 : Nat) < 1 := (i 0).isLt
      have h1 : (i 1 : Nat) < 1 := (i 1).isLt
      have hi : win0_5.index t0_7 0 = 0 ∧ win0_5.index t0_7 1 = 0 := by decide
      match a with
      | ⟨0, _⟩ =>
        show win0_5.index t0_7 0 * 1 ≤ (i 0 : Nat) ∧ (i 0 : Nat) < win0_5.index t0_7 0 * 1 + 1
        rw [hi.1]; omega
      | ⟨1, _⟩ =>
        show win0_5.index t0_7 1 * 1 ≤ (i 1 : Nat) ∧ (i 1 : Nat) < win0_5.index t0_7 1 * 1 + 1
        rw [hi.2]; omega⟩

/-! ### The results -/

section

variable (x : FVec Ideal S64x16384 .f32) (d : FVec Ideal S64x512 .f32) (e : FVec Ideal S512x64 .f32)

/-- The first result: the reconstruction in the argument's layout. -/
def output : FVec Ideal S16x64x32x32 .f32 :=
  transpose S16x64x32x32 [0, 3, 1, 2] (shapeCast S16x32x32x64 (rebuiltArray x d e) shapeCasts_S64x16384_S16x32x32x64)
    transposes_S16x32x32x64_S16x64x32x32_0_3_1_2

/-- The second result: five quarters of the squared errors over their number. -/
def lossOf : FVec Ideal S_ .f32 :=
  Host.divf (mulf (constant S_ .f32 0x3FA00000#32) (shapeCast S_ (squares x d e) shapeCasts_S1x1_S_))
    (constant S_ .f32 0x49800000#32)

end

/-- The kernel leaves its three results in their places and its arguments as they were. -/
theorem run : θ_run defs (onTc (τ := τ) (main (F := Ideal))) ⟨m, fun _ => 0, ρ⟩ fun r => ∀ c : Dev nD,
    r.2.mem ((c.tc : Thread nD τ).loc main_v9) = output (V m c main_v1) (V m c main_v5) (V m c main_v6)
    ∧ r.2.mem ((c.tc : Thread nD τ).loc main_v12) = lossOf (V m c main_v1) (V m c main_v5) (V m c main_v6)
    ∧ r.2.mem ((c.tc : Thread nD τ).loc main_v7_0) = coefficientArray (V m c main_v1) (V m c main_v5) (V m c main_v6)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ?_) (run_main m ρ)
  refine ⟨?_, ?_, ((h c).1 3).trans (final_coefficients m c), ((h c).2 _ (by decide)).trans (W_main_arg0 m (dats m) c),
    ((h c).2 _ (by decide)).trans (W_main_arg1 m (dats m) c)⟩
  · refine ((h c).2 main_v9 (by decide)).trans ?_
    unfold Pipeline.afterTail₀ hostOps1
    simp only [List.flatten_cons, List.flatten_nil, List.append_nil]
    after_results
    rw [show Pipeline.withArrays (cfgs 0).spec c (V0 m c) (fun w => (dats m 0 c).arrAt w (cfgs 0).N) (Proc.devRef .tc main_v7_1)
      = _ from (Pipeline.withArrays_arr spec0 (by decide) c (V0 m c) (fun w => (dats m 0 c).arrAt w cfg0.N) 4).trans
        (final_rebuilt m c)]
    rfl
  · refine ((h c).2 main_v12 (by decide)).trans ?_
    unfold Pipeline.afterTail₀ hostOps1
    simp only [List.flatten_cons, List.flatten_nil, List.append_nil]
    after_results
    rw [show Pipeline.withArrays (cfgs 0).spec c (V0 m c) (fun w => (dats m 0 c).arrAt w (cfgs 0).N) (Proc.devRef .tc main_v7_2)
      = _ from (Pipeline.withArrays_arr spec0 (by decide) c (V0 m c) (fun w => (dats m 0 c).arrAt w cfg0.N) 5).trans
        (final_squares m c)]
    rfl

end Cert.Arrays

end
-- ==== Proof.BlockReads.lean ====
/- The kernel's operations read at one signal of a block: the atom of the greatest penalised magnitude, the value and the
   Gram row at a chosen atom, the penalties. -/
module

public import proofs.«01_k».proof.Proof.Block
public import Idealize.ShloMosaic.PureOps.Ideal.Laws
public import Idealize.ShloMosaic.Lib.MatmulPlain
public import Idealize.ShloMosaic.Lib.ValueIdx
public import Idealize.ShloMosaic.Lib.Pipeline.Value

@[expose] public section

set_option maxRecDepth 16384

noncomputable section

namespace Cert.Block

open Idealize.ShloMosaic Idealize.ShloMosaic.ValueIdx Cert.KernelIdeal Cert.KernelIdeal.Gen Cert.Pursuit
open scoped BigOperators

/-- The index of a signal within its block. -/
abbrev Lane : Type := Fin 2048

/-- The index of an atom and a signal. -/
abbrev cell (a : Atom) (j : Lane) : S512x2048.Idx := ix2 a j

/-- The index of a signal in a line. -/
abbrev lane (j : Lane) : S1x2048.Idx := ix2 (0 : Fin 1) j

/-- An atom as a word. -/
abbrev code (p : Atom) : BitVec 32 := BitVec.ofNat 32 p.val

/-- Different atoms have different words. -/
theorem code_eq_iff (a p : Atom) : code a = code p ↔ a = p := by
  constructor
  · intro h
    have := congrArg BitVec.toNat h
    simp only [BitVec.toNat_ofNat] at this
    exact Fin.ext (by omega)
  · rintro rfl; rfl

/-- A line repeated for every atom reads the line at the signal. -/
theorem repeated {α : Type} (x : S1x2048.Idx → α) (a : Atom) (j : Lane) :
    broadcastTo S512x2048 x broadcasts_S1x2048_S512x2048 (cell a j) = x (lane j) := by
  refine broadcastTo_apply _ _ (cell a j) (lane j) fun k => ?_
  match k with
  | ⟨0, _⟩ => rfl
  | ⟨1, _⟩ => rfl

/-- The same of a line of values. -/
theorem spread_apply (x : Line) (a : Atom) (j : Lane) : spread x (cell a j) = x (lane j) := repeated x a j

/-- The mask of a chosen atom is one at it and zero elsewhere. -/
theorem chosen_apply (i : Choice) (a p : Atom) (j : Lane) (h : i (lane j) = code p) :
    chosen i (cell a j) = hot p a := by
  have e : hits i (cell a j) = IntOp.cmpi .eq (code a)
      (broadcastTo S512x2048 i broadcasts_S1x2048_S512x2048 (cell a j)) := by
    have ei : iota .tc S512x2048 32 [0] iota_S512x2048_d0_w32 (cell a j) = code a := by
      show BitVec.ofNat 32 (0 * 512 + a.val) = _
      rw [Nat.zero_mul, Nat.zero_add]
    rw [← ei]
    rfl
  rw [repeated, h] at e
  have e' : chosen i (cell a j) = ((((hits i (cell a j)).setWidth 32).toInt : ℝ) : EReal) := rfl
  rw [e', e, hot]
  by_cases hap : a = p
  · subst hap; simp [IntOp.cmpi]
  · have := mt (code_eq_iff a p).1 hap
    simp [IntOp.cmpi, beq_eq_false_iff_ne.2 this, hap]

/-- The penalty with the chosen atom barred. -/
theorem bar_apply (pen : Table) (i : Choice) (a p : Atom) (j : Lane) (h : i (lane j) = code p) :
    bar pen i (cell a j) = pen (cell a j) + hot p a * ⊤ := by
  rw [← chosen_apply i a p j h]
  rfl

/-- The sum over the atoms against the mask of a chosen atom. -/
theorem sum_hot (f : Atom → EReal) (p : Atom) : ∑ a, hot p a * f a = f p := by
  rw [Finset.sum_eq_single p]
  · simp [hot]
  · intro a _ h; simp [hot, h]
  · intro h; exact absurd (Finset.mem_univ p) h

/-- The same, the mask on the right. -/
theorem sum_hot' (f : Atom → EReal) (p : Atom) : ∑ a, f a * hot p a = f p := by
  simp only [mul_comm (f _), sum_hot]

/-- The index of a signal in a row. -/
abbrev row (j : Lane) : S2048.Idx := ix1 j

/-- A row in the form of a line reads the row. -/
theorem line_of_row {α : Type} (x : S2048.Idx → α) (j : Lane) :
    shapeCast S1x2048 x shapeCasts_S2048_S1x2048 (lane j) = x (row j) := by
  rw [shapeCast_apply _ _ (lane j) (row j)
    (by rw [Shape.rowMajor_val_two, Shape.rowMajor_val_one]; show j.val = 0 * 2048 + j.val; omega)]

/-- The entries a reduction over the atoms reads at a signal are the signal's, atom by atom. -/
theorem lift_eq (j : Lane) (a : Atom) : reduces_S512x2048_S2048.lift (row j) a = cell a j := by
  funext k
  match k with
  | ⟨0, _⟩ => rfl
  | ⟨1, _⟩ => rfl

/-- The value at the chosen atom. -/
theorem valueAt_apply (x : Table) (i : Choice) (p : Atom) (j : Lane) (h : i (lane j) = code p) :
    valueAt x i (lane j) = x (cell p j) := by
  rw [valueAt, line_of_row]
  refine (Ideal.multiReduction_add_single _ _ _ _ _ (row j)).trans ?_
  refine Eq.trans (Finset.sum_congr rfl fun a _ => ?_) (sum_hot (fun a => x (cell a j)) p)
  have e : mulf (chosen i) x (cell a j) = chosen i (cell a j) * x (cell a j) := rfl
  rw [← chosen_apply i a p j h, ← e]
  exact congrArg _ (lift_eq j a)

/-- A matrix's column at the chosen atom. -/
theorem column_apply (g : Square) (i : Choice) (a p : Atom) (j : Lane) (h : i (lane j) = code p) :
    column g i (cell a j) = g (ix2 a p) := by
  have e : column g i = FloatOps.matmul (DotDims.plain 512 512 2048) none g (truncf .bf16 (chosen i) bitsLt_bf16_f32)
    (constant S512x2048 .f32 0x00000000#32) := rfl
  rw [e, Ideal.matmul_plain_apply]
  have z : constant (F := Ideal) S512x2048 .f32 0x00000000#32 (ix2 a j) = 0 := Ideal.ofBits_zero_f32
  rw [z, zero_add]
  refine Eq.trans (Finset.sum_congr rfl fun k _ => ?_) (sum_hot' (fun k => g (ix2 a k)) p)
  rw [← chosen_apply i k p j h]
  rfl

/-- The Gram matrix's row at the chosen atom, where the two lower parts are zero. -/
theorem gramRow_apply (g1 g2 g3 : Square) (h2 : ∀ k, g2 k = 0) (h3 : ∀ k, g3 k = 0) (i : Choice) (a p : Atom) (j : Lane)
    (h : i (lane j) = code p) : gramRow g1 g2 g3 i (cell a j) = g1 (ix2 a p) := by
  have e : gramRow g1 g2 g3 i (cell a j) = column g1 i (cell a j) + column g2 i (cell a j) + column g3 i (cell a j) := rfl
  rw [e, column_apply g1 i a p j h, column_apply g2 i a p j h, column_apply g3 i a p j h, h2, h3, add_zero, add_zero]

/-- An entry is reduced into a signal exactly when it is the signal's. -/
theorem drop_eq_iff (i : S512x2048.Idx) (j : Lane) : reduces_S512x2048_S2048.drop i = row j ↔ i 1 = j := by
  have hv : (reduces_S512x2048_S2048.drop i 0 : ℕ) = i 1 := Shape.Reduces.drop_apply_val _ i 0
  constructor
  · intro h
    rw [h] at hv
    exact Fin.ext hv.symm
  · intro h
    funext k
    have hk : k = 0 := Subsingleton.elim _ _
    subst hk
    exact Fin.ext (hv.trans (congrArg Fin.val h))

/-- An entry of a signal is that of one of its atoms. -/
theorem exists_cell (i : S512x2048.Idx) (j : Lane) (h : i 1 = j) : ∃ a, i = cell a j := by
  subst h; exact ⟨i 0, eq_ix2 i⟩

/-- The atom chosen is the one of the greatest penalised magnitude. -/
theorem choose_apply (x pen : Table) (p : Atom) (j : Lane)
    (h : Top (fun a => mag (x (cell a j)) - pen (cell a j)) p) : choose x pen (lane j) = code p := by
  classical
  rw [choose, line_of_row]
  have hs : ∀ a, subf (absf x) pen (cell a j) = mag (x (cell a j)) - pen (cell a j) := fun a => rfl
  generalize subf (absf x) pen = s at hs
  have ht : Top (fun a => s (cell a j)) p := fun q hq => by
    have := h q hq
    show s (cell q j) < s (cell p j)
    rw [hs, hs]; exact this
  show BitVec.ofNat 32 _ = _
  congr 1
  have hext : (Finset.univ.filter (fun i : S512x2048.Idx => reduces_S512x2048_S2048.drop i = row j)).filter
      (fun i => ∀ i' ∈ Finset.univ.filter (fun i : S512x2048.Idx => reduces_S512x2048_S2048.drop i = row j),
        ¬ (if ArgKind.argMax = .argMax then s i < s i' else s i' < s i)) = {cell p j} := by
    ext i
    simp only [Finset.mem_filter, Finset.mem_univ, true_and, Finset.mem_singleton, if_true, drop_eq_iff]
    constructor
    · rintro ⟨hi, hm⟩
      obtain ⟨a, rfl⟩ := exists_cell i j hi
      by_contra hn
      exact hm (cell p j) rfl (ht a fun e => hn (by rw [e]))
    · rintro rfl
      refine ⟨rfl, fun i' hi' => ?_⟩
      obtain ⟨a, rfl⟩ := exists_cell i' j hi'
      by_cases e : a = p
      · rw [e]; exact lt_irrefl _
      · exact not_lt.2 (ht a e).le
  have key : ∀ S : Finset S512x2048.Idx, S = {cell p j} → ((S.image fun i => (i 0).val).min.getD 0) = p.val := by
    rintro S rfl
    simp
    rfl
  refine key _ (Eq.trans ?_ hext)
  congr

end Cert.Block

end
-- ==== Proof.BlockValue.lean ====
/- What the kernel computes of one signal of a block: where the pursuit's selections on the signal's correlations each
   have one greatest score alone, the kernel's are the same, and its coefficients are the pursuit's. -/
module

public import proofs.«01_k».proof.Proof.BlockReads

@[expose] public section

set_option maxRecDepth 16384

noncomputable section

namespace Cert.Block

open Idealize.ShloMosaic Idealize.ShloMosaic.ValueIdx Cert.KernelIdeal Cert.KernelIdeal.Gen Cert.Pursuit

/-- The arithmetic of tables, entry by entry. -/
theorem table (x y : Table) (i : S512x2048.Idx) :
    subf x y i = x i - y i ∧ mulf x y i = x i * y i ∧ addf x y i = x i + y i := ⟨rfl, rfl, rfl⟩

/-- A block's data: the correlations, the Gram matrix in three parts, the two lower ones zero, and the pursuit on one
    signal's correlations. -/
structure Data (b : Table) (g1 g2 g3 : Square) (j : Lane) (G : Atom → Atom → EReal) (p0 p1 p2 p3 p4 : Atom) : Prop where
  first : ∀ a p, g1 (ix2 a p) = G p a
  second : ∀ k, g2 k = 0
  third : ∀ k, g3 k = 0
  greedy : Greedy (fun a => b (cell a j)) G p0 p1 p2 p3 p4

namespace Data

variable {b : Table} {g1 g2 g3 : Square} {j : Lane} {G : Atom → Atom → EReal} {p0 p1 p2 p3 p4 : Atom}
  (h : Data b g1 g2 g3 j G p0 p1 p2 p3 p4)
include h

/-- The Gram row at a chosen atom is that of the data. -/
theorem gramRow_eq (i : Choice) (a p : Atom) (hi : i (lane j) = code p) : gramRow g1 g2 g3 i (cell a j) = G p a :=
  (gramRow_apply g1 g2 g3 h.second h.third i a p j hi).trans (h.first a p)

/-! The first selection. -/

/-- The first selection is the pursuit's. -/
theorem pick0 : Block.pick0 b (lane j) = code p0 :=
  choose_apply _ _ p0 j (Top.penalised barred_start h.greedy.top0)

/-- The Gram row of the first selected atom is the pursuit's. -/
theorem row0 (a : Atom) : Block.row0 b g1 g2 g3 (cell a j) = G p0 a := h.gramRow_eq _ a p0 h.pick0

/-- The penalties bar exactly the one atom selected. -/
theorem barred1 : Barred (free1 p0) (fun a => Block.pen1 b (cell a j)) := by
  have e : (fun a => Block.pen1 b (cell a j)) = fun a => zero + hot p0 a * ⊤ :=
    funext fun a => bar_apply _ _ a p0 j h.pick0
  rw [e]
  exact barred_start.select p0

/-- The leaves once one atom is selected are the pursuit's. -/
theorem factor1 : Block.factor1 b (lane j) = leaves1 (fun a => b (cell a j)) p0 := by
  rw [Block.factor1, valueAt_apply _ _ p0 j h.pick0]; rfl

/-- The residual correlations once one atom is selected are the pursuit's. -/
theorem rest1 (a : Atom) : Block.rest1 b g1 g2 g3 (cell a j) = corr1 (fun a => b (cell a j)) G p0 a := by
  simp only [Block.rest1, table, spread_apply, h.row0, h.factor1, corr1]

/-! The second. -/

/-- The second selection is the pursuit's. -/
theorem pick1 : Block.pick1 b g1 g2 g3 (lane j) = code p1 :=
  choose_apply _ _ p1 j (by simp only [h.rest1]; exact Top.penalised h.barred1 h.greedy.top1)

/-- The Gram row of the second selected atom is the pursuit's. -/
theorem row1 (a : Atom) : Block.row1 b g1 g2 g3 (cell a j) = G p1 a := h.gramRow_eq _ a p1 h.pick1

/-- The penalties bar exactly the two atoms selected. -/
theorem barred2 : Barred (free2 p0 p1) (fun a => Block.pen2 b g1 g2 g3 (cell a j)) := by
  have e : (fun a => Block.pen2 b g1 g2 g3 (cell a j)) = fun a => Block.pen1 b (cell a j) + hot p1 a * ⊤ :=
    funext fun a => bar_apply _ _ a p1 j h.pick1
  rw [e]
  exact h.barred1.select p1

/-- The leaves once two atoms are selected are the pursuit's. -/
theorem factor2 : Block.factor2 b g1 g2 g3 (lane j) = leaves2 (fun a => b (cell a j)) G p0 p1 := by
  rw [Block.factor2, valueAt_apply _ _ p1 j h.pick1, valueAt_apply _ _ p1 j h.pick1, h.row0, h.factor1]; rfl

/-- The residual correlations once two atoms are selected are the pursuit's. -/
theorem rest2 (a : Atom) : Block.rest2 b g1 g2 g3 (cell a j) = corr2 (fun a => b (cell a j)) G p0 p1 a := by
  simp only [Block.rest2, table, spread_apply, h.row0, h.row1, h.factor2, corr2]

/-! The third. -/

/-- The third selection is the pursuit's. -/
theorem pick2 : Block.pick2 b g1 g2 g3 (lane j) = code p2 :=
  choose_apply _ _ p2 j (by simp only [h.rest2]; exact Top.penalised h.barred2 h.greedy.top2)

/-- The Gram row of the third selected atom is the pursuit's. -/
theorem row2 (a : Atom) : Block.row2 b g1 g2 g3 (cell a j) = G p2 a := h.gramRow_eq _ a p2 h.pick2

/-- The penalties bar exactly the three atoms selected. -/
theorem barred3 : Barred (free3 p0 p1 p2) (fun a => Block.pen3 b g1 g2 g3 (cell a j)) := by
  have e : (fun a => Block.pen3 b g1 g2 g3 (cell a j)) = fun a => Block.pen2 b g1 g2 g3 (cell a j) + hot p2 a * ⊤ :=
    funext fun a => bar_apply _ _ a p2 j h.pick2
  rw [e]
  exact h.barred2.select p2

/-- The leaves once three atoms are selected are the pursuit's. -/
theorem factor3 : Block.factor3 b g1 g2 g3 (lane j) = leaves3 (fun a => b (cell a j)) G p0 p1 p2 := by
  rw [Block.factor3, valueAt_apply _ _ p2 j h.pick2, valueAt_apply _ _ p2 j h.pick2, valueAt_apply _ _ p2 j h.pick2,
    h.row0, h.row1, h.factor2]; rfl

/-- The residual correlations once three atoms are selected are the pursuit's. -/
theorem rest3 (a : Atom) : Block.rest3 b g1 g2 g3 (cell a j) = corr3 (fun a => b (cell a j)) G p0 p1 p2 a := by
  simp only [Block.rest3, table, spread_apply, h.row0, h.row1, h.row2, h.factor3, corr3]

/-! The fourth. -/

/-- The fourth selection is the pursuit's. -/
theorem pick3 : Block.pick3 b g1 g2 g3 (lane j) = code p3 :=
  choose_apply _ _ p3 j (by simp only [h.rest3]; exact Top.penalised h.barred3 h.greedy.top3)

/-- The Gram row of the fourth selected atom is the pursuit's. -/
theorem row3 (a : Atom) : Block.row3 b g1 g2 g3 (cell a j) = G p3 a := h.gramRow_eq _ a p3 h.pick3

/-- The penalties bar exactly the four atoms selected. -/
theorem barred4 : Barred (free4 p0 p1 p2 p3) (fun a => Block.pen4 b g1 g2 g3 (cell a j)) := by
  have e : (fun a => Block.pen4 b g1 g2 g3 (cell a j)) = fun a => Block.pen3 b g1 g2 g3 (cell a j) + hot p3 a * ⊤ :=
    funext fun a => bar_apply _ _ a p3 j h.pick3
  rw [e]
  exact h.barred3.select p3

/-- The leaves once four atoms are selected are the pursuit's. -/
theorem factor4 : Block.factor4 b g1 g2 g3 (lane j) = leaves4 (fun a => b (cell a j)) G p0 p1 p2 p3 := by
  rw [Block.factor4, valueAt_apply _ _ p3 j h.pick3, valueAt_apply _ _ p3 j h.pick3, valueAt_apply _ _ p3 j h.pick3,
    valueAt_apply _ _ p3 j h.pick3, h.row0, h.row1, h.row2, h.factor3]; rfl

/-- The residual correlations once four atoms are selected are the pursuit's. -/
theorem rest4 (a : Atom) : Block.rest4 b g1 g2 g3 (cell a j) = corr4 (fun a => b (cell a j)) G p0 p1 p2 p3 a := by
  simp only [Block.rest4, table, spread_apply, h.row0, h.row1, h.row2, h.row3, h.factor4, corr4]

/-! The fifth. -/

/-- The fifth selection is the pursuit's. -/
theorem pick4 : Block.pick4 b g1 g2 g3 (lane j) = code p4 :=
  choose_apply _ _ p4 j (by simp only [h.rest4]; exact Top.penalised h.barred4 h.greedy.top4)

/-- The leaves once five atoms are selected are the pursuit's. -/
theorem factor5 : Block.factor5 b g1 g2 g3 (lane j) = leaves5 (fun a => b (cell a j)) G p0 p1 p2 p3 p4 := by
  rw [Block.factor5, valueAt_apply _ _ p4 j h.pick4, valueAt_apply _ _ p4 j h.pick4, valueAt_apply _ _ p4 j h.pick4,
    valueAt_apply _ _ p4 j h.pick4, valueAt_apply _ _ p4 j h.pick4, h.row0, h.row1, h.row2, h.row3, h.factor4]; rfl

/-- The five atoms are five different ones. -/
theorem distinct : (p1 ≠ p0) ∧ (p2 ≠ p1 ∧ p2 ≠ p0) ∧ (p3 ≠ p2 ∧ p3 ≠ p1 ∧ p3 ≠ p0)
    ∧ (p4 ≠ p3 ∧ p4 ≠ p2 ∧ p4 ≠ p1 ∧ p4 ≠ p0) := by
  obtain ⟨a10, -⟩ := ne_of_select_eq_one (free := fun _ => one) (Top.free_eq_one h.barred1 h.greedy.top1)
  obtain ⟨a21, f2⟩ := ne_of_select_eq_one (Top.free_eq_one h.barred2 h.greedy.top2)
  obtain ⟨a20, -⟩ := ne_of_select_eq_one (free := fun _ => one) f2
  obtain ⟨a32, f3⟩ := ne_of_select_eq_one (Top.free_eq_one h.barred3 h.greedy.top3)
  obtain ⟨a31, f3⟩ := ne_of_select_eq_one f3
  obtain ⟨a30, -⟩ := ne_of_select_eq_one (free := fun _ => one) f3
  obtain ⟨a43, f4⟩ := ne_of_select_eq_one (Top.free_eq_one h.barred4 h.greedy.top4)
  obtain ⟨a42, f4⟩ := ne_of_select_eq_one f4
  obtain ⟨a41, f4⟩ := ne_of_select_eq_one f4
  obtain ⟨a40, -⟩ := ne_of_select_eq_one (free := fun _ => one) f4
  exact ⟨a10, ⟨a21, a20⟩, ⟨a32, a31, a30⟩, a43, a42, a41, a40⟩

/-- The block's coefficients of the signal are the pursuit's. -/
theorem coefficients (a : Atom) :
    Block.coefficients b g1 g2 g3 (cell a j) = coefficient (fun a => b (cell a j)) G p0 p1 p2 p3 p4 a := by
  obtain ⟨a10, ⟨a21, a20⟩, ⟨a32, a31, a30⟩, a43, a42, a41, a40⟩ := h.distinct
  simp only [Block.coefficients, table, spread_apply, h.factor5, chosen_apply _ a p0 j h.pick0, chosen_apply _ a p1 j h.pick1,
    chosen_apply _ a p2 j h.pick2, chosen_apply _ a p3 j h.pick3, chosen_apply _ a p4 j h.pick4, coefficient]
  generalize leaves5 (fun a => b (cell a j)) G p0 p1 p2 p3 p4 = l
  unfold hot
  by_cases e4 : a = p4
  · subst e4; simp [a43, a42, a41, a40]
  by_cases e3 : a = p3
  · subst e3; simp [a32, a31, a30, e4]
  by_cases e2 : a = p2
  · subst e2; simp [a21, a20, e4, e3]
  by_cases e1 : a = p1
  · subst e1; simp [a10, e4, e3, e2]
  by_cases e0 : a = p0
  · subst e0; simp [e4, e3, e2, e1]
  · simp [e4, e3, e2, e1, e0, zero_eq]

end Data

end Cert.Block

end
-- ==== Proof.BlockProducts.lean ====
/- The kernel's matrix products read at one place of a block: the correlations, the Gram matrix and its parts, the
   reconstruction, and the sum of the squared errors. -/
module

public import proofs.«01_k».proof.Proof.BlockValue

@[expose] public section

set_option maxRecDepth 16384

noncomputable section

namespace Cert.Block

open Idealize.ShloMosaic Idealize.ShloMosaic.ValueIdx Cert.KernelIdeal Cert.KernelIdeal.Gen Cert.Pursuit
open scoped BigOperators

/-- A product of two matrices with nothing added, read at a place. -/
theorem product_apply {r k n : ℕ} (x : FVec Ideal ⟨2, ![r, k]⟩ .f32) (y : FVec Ideal ⟨2, ![k, n]⟩ .f32) (a : Fin r) (b : Fin n) :
    FloatOps.matmul (DotDims.plain r k n) none x y (constant (F := Ideal) ⟨2, ![r, n]⟩ .f32 0x00000000#32) (ix2 a b)
      = ∑ c : Fin k, x (ix2 a c) * y (ix2 c b) := by
  rw [Ideal.matmul_plain_apply]
  have z : constant (F := Ideal) (⟨2, ![r, n]⟩ : Shape) .f32 0x00000000#32 (ix2 a b) = 0 := Ideal.ofBits_zero_f32
  rw [z, zero_add]

section

variable (x0 : Vec Ideal S64x2048 .f32) (x1 : Vec Ideal S64x512 .f32) (x2 : Vec Ideal S512x64 .f32)

/-- The channels of a signal. -/
abbrev Channel : Type := Fin 64

/-- The correlation of an atom with a signal of the block is the sum of their products over the channels. -/
theorem correlation_apply (a : Atom) (j : Lane) :
    k0_pay9 x0 x2 (cell a j) = ∑ c : Channel, x2 (ix2 a c) * x0 (ix2 c j) := by
  refine Eq.trans ?_ (product_apply x2 x0 a j)
  unfold k0_pay9 k0_pay7 k0_pay5
  rw [shapeCast_self, shapeCast_self]
  rfl

/-- An entry of the Gram matrix is the sum of two atoms' products over the channels. -/
theorem gram_apply (a p : Atom) : k0_pay8 x1 x2 (ix2 a p) = ∑ c : Channel, x2 (ix2 a c) * x1 (ix2 c p) := by
  refine Eq.trans ?_ (product_apply x2 x1 a p)
  unfold k0_pay8 k0_pay7 k0_pay6
  rw [shapeCast_self, shapeCast_self]
  rfl

/-- The upper part of the Gram matrix is the Gram matrix, and the parts below it are what is left: zero, where the Gram
    matrix is finite. -/
theorem parts (h : ∀ a p : Atom, ∃ r : ℝ, k0_pay8 x1 x2 (ix2 a p) = (r : EReal)) :
    (∀ i, k0_pay13 x1 x2 i = k0_pay8 x1 x2 i) ∧ (∀ i, k0_pay14 x1 x2 i = 0) ∧ (∀ i, k0_pay12 x1 x2 i = 0) := by
  have e1 : ∀ i, k0_pay13 x1 x2 i = k0_pay8 x1 x2 i := fun i => rfl
  have e2 : ∀ i, k0_pay14 x1 x2 i = k0_pay8 x1 x2 i - k0_pay8 x1 x2 i := fun i => rfl
  have e3 : ∀ i, k0_pay12 x1 x2 i
      = (k0_pay8 x1 x2 i - k0_pay8 x1 x2 i) - (k0_pay8 x1 x2 i - k0_pay8 x1 x2 i) := fun i => rfl
  have z : ∀ i : S512x512.Idx, k0_pay8 x1 x2 i - k0_pay8 x1 x2 i = 0 := fun i => by
    obtain ⟨r, hr⟩ := h (i 0) (i 1)
    have hi : k0_pay8 x1 x2 i = (r : EReal) := (congrArg _ (eq_ix2 i)).trans hr
    rw [hi]
    exact EReal.sub_self (EReal.coe_ne_top r) (EReal.coe_ne_bot r)
  exact ⟨e1, fun i => (e2 i).trans (z i), fun i => (e3 i).trans (by rw [z, sub_zero])⟩

/-- A rebuilt channel of a signal is the sum of the atoms' channels, each times its coefficient. -/
theorem rebuilt_apply (c : Channel) (j : Lane) :
    rebuiltOf x0 x1 x2 (ix2 c j) = ∑ a : Atom, x1 (ix2 c a) * coefficientsOf x0 x1 x2 (cell a j) := by
  refine Eq.trans ?_ (product_apply x1 (coefficientsOf x0 x1 x2) c j)
  unfold rebuiltOf k0_pay6
  rw [shapeCast_self]
  rfl

/-- An error is the rebuilt value less the signal's. -/
theorem errors_apply (c : Channel) (j : Lane) :
    errorsOf x0 x1 x2 (ix2 c j) = rebuiltOf x0 x1 x2 (ix2 c j) - x0 (ix2 c j) := by
  unfold errorsOf k0_pay5
  rw [shapeCast_self]
  rfl

/-- The entries summed along a channel are the channel's, signal by signal. -/
theorem lift_row (c : Channel) (j : Lane) : reduces_S64x2048_S64.lift (ix1 c) j = ix2 c j := by
  funext k
  match k with
  | ⟨0, _⟩ => rfl
  | ⟨1, _⟩ => rfl

/-- The entries summed last are the channels'. -/
theorem lift_column (c : Channel) : reduces_S64x1_S1.lift (ix1 (0 : Fin 1)) c = ix2 c (0 : Fin 1) := by
  funext k
  match k with
  | ⟨0, _⟩ => rfl
  | ⟨1, _⟩ => rfl

/-- The sum of the block's squared errors. -/
theorem squares_apply : squaresOf x0 x1 x2 (ix2 (0 : Fin 1) (0 : Fin 1))
    = ∑ c : Channel, ∑ j : Lane, errorsOf x0 x1 x2 (ix2 c j) * errorsOf x0 x1 x2 (ix2 c j) := by
  rw [squaresOf, shapeCast_apply _ _ (ix2 (0 : Fin 1) (0 : Fin 1)) (ix1 (0 : Fin 1))
    (by rw [Shape.rowMajor_val_two, Shape.rowMajor_val_one]; rfl)]
  refine (Ideal.multiReduction_add_single _ _ _ _ _ (ix1 (0 : Fin 1))).trans ?_
  refine Finset.sum_congr rfl fun (c : Channel) _ => ?_
  refine (congrArg _ (lift_column c)).trans ?_
  rw [shapeCast_apply _ _ (ix2 c (0 : Fin 1)) (ix1 c)
    (by rw [Shape.rowMajor_val_two, Shape.rowMajor_val_one]; show c.val = c.val * 1 + 0; omega)]
  refine (Ideal.multiReduction_add_single _ _ _ _ _ (ix1 c)).trans ?_
  refine Finset.sum_congr rfl fun (j : Lane) _ => ?_
  exact congrArg _ (lift_row c j)

end

end Cert.Block

end
-- ==== Proof.Reference.lean ====
/- The reference's run, its three results named by `Cert.Signals`: the buffers of the run are read one after another as
   the quantities of the pursuit. -/
module

public import proofs.«01_k».proof.Proof.Signals
public import Idealize.ShloMosaic.Lib.Claim
public import Idealize.ShloMosaic.Lib.ValueIdx

@[expose] public section

set_option maxRecDepth 16384

noncomputable section

namespace Cert.Signals

open Idealize.ShloMosaic Idealize.ShloMosaic.TcCoe Idealize.ShloMosaic.StableHlo Idealize.SL.Sem Cert.ReferenceIdeal
  Cert.ReferenceIdeal.Gen Cert.ReferenceIdeal.Value Cert.Pursuit Cert.Pursuit.Leaves

/-- The arithmetic of lines, signal by signal. -/
theorem line (x y : Line) (j : S16384.Idx) :
    Host.divf x y j = Ideal.div (x j) (y j) ∧ subf x y j = x j - y j ∧ mulf x y j = x j * y j ∧ addf x y j = x j + y j :=
  ⟨rfl, rfl, rfl, rfl⟩

/-- The square root of a line, signal by signal. -/
theorem line_sqrt (x : Line) (j : S16384.Idx) : Host.sqrt x j = Ideal.sqrt (x j) := rfl

/-- A constant line of ones. -/
def ones : Line := broadcastInDim S16384 ![] bcast_S_S16384 (constant S_ .f32 0x3F800000#32)

/-- A constant line of zeros. -/
def zeros : Line := broadcastInDim S16384 ![] bcast_S_S16384 (constant S_ .f32 0x00000000#32)

/-- The constant lines read at a signal. -/
theorem constants (j : S16384.Idx) : ones j = one ∧ zeros j = zero := ⟨rfl, rfl⟩

variable (V0 : Valuation τ sig (Elt Ideal))

/-- The correlations on a device. -/
abbrev B : Table := res_main_v10 V0

/-- The Gram matrix on a device. -/
abbrev M : FVec Ideal S512x512 .f32 := res_main_v7 V0

/-- The buffer of ones. -/
theorem ones_eq : res_main_v27 V0 = ones := rfl

/-! ### The first selection -/

/-- The buffer of the first selection's scores. -/
theorem score0_eq : res_main_v14 V0 = score0 (B V0) := rfl

/-- The buffer of the first selection. -/
theorem pick0_eq : res_main_v21 V0 = pick0 (B V0) := by
  rw [res_main_v21, score0_eq]; rfl

/-- The buffer of the mask after the first selection. -/
theorem free1_eq : res_main_v26 V0 = free1 (B V0) := by
  rw [res_main_v26, pick0_eq]; rfl

/-- The buffer of the Gram row of the first selected atom. -/
theorem row0_eq : res_main_v28 V0 = row0 (B V0) (M V0) := by
  rw [res_main_v28, pick0_eq]; rfl

/-- The buffer of the correlation at the first selected atom. -/
theorem v0_eq : res_main_v31 V0 = valueAt (B V0) (pick0 (B V0)) := by
  rw [res_main_v31, res_main_v29, pick0_eq]; rfl

/-- The buffer of the first entry of the forward solve. -/
theorem y0_eq : res_main_v69 V0 = fun j => (factor1 (B V0) j).y0 := by
  rw [res_main_v69, v0_eq, ones_eq]; funext j
  simp only [line, constants, y0, factor1, start_reads]

/-- The buffer of the second selection's scores. -/
theorem score1_eq : res_main_v41 V0 = score1 (B V0) (M V0) := by
  have h : Host.divf (Host.divf (res_main_v31 V0) (res_main_v27 V0)) (res_main_v27 V0) = fun j => (factor1 (B V0) j).c10 := by
    have h' : Host.divf (res_main_v31 V0) (res_main_v27 V0) = _ := y0_eq V0
    rw [h', ones_eq]; funext j
    simp only [line, constants, c10]
  rw [res_main_v41, h, row0_eq, free1_eq]; rfl

/-! ### The second -/

/-- The buffer of the second selection. -/
theorem pick1_eq : res_main_v48 V0 = pick1 (B V0) (M V0) := by
  rw [res_main_v48, score1_eq]; rfl

/-- The buffer of the mask after the second selection. -/
theorem free2_eq : res_main_v53 V0 = free2 (B V0) (M V0) := by
  rw [res_main_v53, pick1_eq, free1_eq]; rfl

/-- The buffer of the Gram row of the second selected atom. -/
theorem row1_eq : res_main_v65 V0 = row1 (B V0) (M V0) := by
  rw [res_main_v65, pick1_eq]; rfl

/-- The buffer of the first entry of the factor's second row. -/
theorem l10_eq : res_main_v57 V0 = fun j => (factor2 (B V0) (M V0) j).l10 := by
  have h : res_main_v57 V0 = Host.divf (valueAt (res_main_v28 V0) (res_main_v48 V0)) (res_main_v27 V0) := rfl
  rw [h, pick1_eq, row0_eq, ones_eq]; funext j
  simp only [line, constants, l10, factor2, step1_reads]

/-- The buffer of the second entry of the factor's second row. -/
theorem l11_eq : res_main_v64 V0 = fun j => (factor2 (B V0) (M V0) j).l11 := by
  have h : res_main_v64 V0 = Host.sqrt (subf ones (addf zeros (mulf (res_main_v57 V0) (res_main_v57 V0)))) := rfl
  rw [h, l10_eq]; funext j
  simp only [line_sqrt, line, constants, l11]

/-- The buffer of the correlation at the second selected atom. -/
theorem v1_eq : res_main_v68 V0 = valueAt (B V0) (pick1 (B V0) (M V0)) := by
  rw [res_main_v68, res_main_v66, pick1_eq]; rfl

/-- The buffer of the second entry of the forward solve. -/
theorem y1_eq : res_main_v127 V0 = fun j => (factor2 (B V0) (M V0) j).y1 := by
  have h : res_main_v124 V0 = _ := y0_eq V0
  rw [res_main_v127, v1_eq, l10_eq, l11_eq, h]; funext j
  simp only [line, y1, factor2, step1_reads]

/-- The second coefficient with two atoms selected. -/
theorem c21_eq : res_main_v73 V0 = fun j => (factor2 (B V0) (M V0) j).c21 := by
  have h : res_main_v73 V0 = Host.divf (res_main_v127 V0) (res_main_v64 V0) := rfl
  rw [h, y1_eq, l11_eq]; funext j
  simp only [line, c21]

/-- The first coefficient with two atoms selected. -/
theorem c20_eq : Host.divf (subf (res_main_v69 V0) (mulf (res_main_v57 V0) (res_main_v73 V0))) (res_main_v27 V0)
    = fun j => (factor2 (B V0) (M V0) j).c20 := by
  rw [y0_eq, l10_eq, c21_eq, ones_eq]; funext j
  simp only [line, constants, c20, factor2, step1_reads]

/-- The buffer of the third selection's scores. -/
theorem score2_eq : res_main_v88 V0 = score2 (B V0) (M V0) := by
  rw [res_main_v88, c20_eq, c21_eq, row0_eq, row1_eq, free2_eq]; rfl

/-! ### The third -/

/-- The buffer of the third selection. -/
theorem pick2_eq : res_main_v95 V0 = pick2 (B V0) (M V0) := by
  rw [res_main_v95, score2_eq]; rfl

/-- The buffer of the mask after the third selection. -/
theorem free3_eq : res_main_v100 V0 = free3 (B V0) (M V0) := by
  rw [res_main_v100, pick2_eq, free2_eq]; rfl

/-- The buffer of the Gram row of the third selected atom. -/
theorem row2_eq : res_main_v120 V0 = row2 (B V0) (M V0) := by
  rw [res_main_v120, pick2_eq]; rfl

/-- The buffer of the first entry of the factor's third row. -/
theorem l20_eq : res_main_v107 V0 = fun j => (factor3 (B V0) (M V0) j).l20 := by
  have h : res_main_v107 V0 = Host.divf (valueAt (res_main_v28 V0) (res_main_v95 V0)) (res_main_v27 V0) := rfl
  rw [h, pick2_eq, row0_eq, ones_eq]; funext j
  simp only [line, constants, l20, factor3, step2_reads]

/-- The buffer of the second entry of the factor's third row. -/
theorem l21_eq : res_main_v110 V0 = fun j => (factor3 (B V0) (M V0) j).l21 := by
  have h : res_main_v110 V0 = Host.divf (subf (valueAt (res_main_v65 V0) (res_main_v95 V0))
    (mulf (res_main_v57 V0) (res_main_v107 V0))) (res_main_v64 V0) := rfl
  rw [h, pick2_eq, row1_eq, l10_eq, l11_eq, l20_eq]; funext j
  simp only [line, l21, factor3, step2_reads]

/-- The buffer of the third entry of the factor's third row. -/
theorem l22_eq : res_main_v119 V0 = fun j => (factor3 (B V0) (M V0) j).l22 := by
  have h : res_main_v119 V0 = Host.sqrt (subf ones (addf (addf zeros (mulf (res_main_v107 V0) (res_main_v107 V0)))
    (mulf (res_main_v110 V0) (res_main_v110 V0)))) := rfl
  rw [h, l20_eq, l21_eq]; funext j
  simp only [line_sqrt, line, constants, l22]

/-- The buffer of the correlation at the third selected atom. -/
theorem v2_eq : res_main_v123 V0 = valueAt (B V0) (pick2 (B V0) (M V0)) := by
  rw [res_main_v123, res_main_v121, pick2_eq]; rfl

/-- The buffer of the third entry of the forward solve. -/
theorem y2_eq : res_main_v211 V0 = fun j => (factor3 (B V0) (M V0) j).y2 := by
  have h : res_main_v203 V0 = _ := y0_eq V0
  have h' : res_main_v206 V0 = _ := y1_eq V0
  rw [res_main_v211, v2_eq, l20_eq, l21_eq, l22_eq, h, h']; funext j
  simp only [line, y2, factor3, step2_reads]
  simp only [factor2, step1_reads]

/-- The third coefficient with three atoms selected. -/
theorem c32_eq : res_main_v133 V0 = fun j => (factor3 (B V0) (M V0) j).c32 := by
  have h : res_main_v133 V0 = Host.divf (res_main_v211 V0) (res_main_v119 V0) := rfl
  rw [h, y2_eq, l22_eq]; funext j
  simp only [line, c32]

/-- The second coefficient with three atoms selected. -/
theorem c31_eq : res_main_v136 V0 = fun j => (factor3 (B V0) (M V0) j).c31 := by
  rw [res_main_v136, y1_eq, l21_eq, c32_eq, l11_eq]; funext j
  simp only [line, c31, factor3, step2_reads]

/-- The first coefficient with three atoms selected. -/
theorem c30_eq : Host.divf (subf (subf (res_main_v124 V0) (mulf (res_main_v57 V0) (res_main_v136 V0)))
    (mulf (res_main_v107 V0) (res_main_v133 V0))) (res_main_v27 V0) = fun j => (factor3 (B V0) (M V0) j).c30 := by
  have h : res_main_v124 V0 = _ := y0_eq V0
  rw [h, l10_eq, c31_eq, l20_eq, c32_eq, ones_eq]; funext j
  simp only [line, constants, c30, factor3, step2_reads]
  simp only [factor2, step1_reads]

/-- The buffer of the fourth selection's scores. -/
theorem score3_eq : res_main_v157 V0 = score3 (B V0) (M V0) := by
  rw [res_main_v157, c30_eq, c31_eq, c32_eq, row0_eq, row1_eq, row2_eq, free3_eq]; rfl

/-! ### The fourth -/

/-- The buffer of the fourth selection. -/
theorem pick3_eq : res_main_v164 V0 = pick3 (B V0) (M V0) := by
  rw [res_main_v164, score3_eq]; rfl

/-- The buffer of the mask after the fourth selection. -/
theorem free4_eq : res_main_v169 V0 = free4 (B V0) (M V0) := by
  rw [res_main_v169, pick3_eq, free3_eq]; rfl

/-- The buffer of the Gram row of the fourth selected atom. -/
theorem row3_eq : res_main_v199 V0 = row3 (B V0) (M V0) := by
  rw [res_main_v199, pick3_eq]; rfl

/-- The buffer of the first entry of the factor's fourth row. -/
theorem l30_eq : res_main_v179 V0 = fun j => (factor4 (B V0) (M V0) j).l30 := by
  have h : res_main_v179 V0 = Host.divf (valueAt (res_main_v28 V0) (res_main_v164 V0)) (res_main_v27 V0) := rfl
  rw [h, pick3_eq, row0_eq, ones_eq]; funext j
  simp only [line, constants, l30, factor4, step3_reads]

/-- The buffer of the second entry of the factor's fourth row. -/
theorem l31_eq : res_main_v182 V0 = fun j => (factor4 (B V0) (M V0) j).l31 := by
  have h : res_main_v182 V0 = Host.divf (subf (valueAt (res_main_v65 V0) (res_main_v164 V0))
    (mulf (res_main_v57 V0) (res_main_v179 V0))) (res_main_v64 V0) := rfl
  rw [h, pick3_eq, row1_eq, l10_eq, l11_eq, l30_eq]; funext j
  simp only [line, l31, factor4, step3_reads]
  simp only [factor3, step2_reads]

/-- The buffer of the third entry of the factor's fourth row. -/
theorem l32_eq : res_main_v187 V0 = fun j => (factor4 (B V0) (M V0) j).l32 := by
  have h : res_main_v187 V0 = Host.divf (subf (subf (valueAt (res_main_v120 V0) (res_main_v164 V0))
    (mulf (res_main_v107 V0) (res_main_v179 V0))) (mulf (res_main_v110 V0) (res_main_v182 V0))) (res_main_v119 V0) := rfl
  rw [h, pick3_eq, row2_eq, l20_eq, l21_eq, l22_eq, l30_eq, l31_eq]; funext j
  simp only [line, l32, factor4, step3_reads]

/-- The buffer of the fourth entry of the factor's fourth row. -/
theorem l33_eq : res_main_v198 V0 = fun j => (factor4 (B V0) (M V0) j).l33 := by
  have h : res_main_v198 V0 = Host.sqrt (subf ones (addf (addf (addf zeros (mulf (res_main_v179 V0) (res_main_v179 V0)))
    (mulf (res_main_v182 V0) (res_main_v182 V0))) (mulf (res_main_v187 V0) (res_main_v187 V0)))) := rfl
  rw [h, l30_eq, l31_eq, l32_eq]; funext j
  simp only [line_sqrt, line, constants, l33]

/-- The buffer of the correlation at the fourth selected atom. -/
theorem v3_eq : res_main_v202 V0 = valueAt (B V0) (pick3 (B V0) (M V0)) := by
  rw [res_main_v202, res_main_v200, pick3_eq]; rfl

/-- The buffer of the fourth entry of the forward solve. -/
theorem y3_eq : res_main_v327 V0 = fun j => (factor4 (B V0) (M V0) j).y3 := by
  have h0 : res_main_v312 V0 = _ := y0_eq V0
  have h1 : res_main_v315 V0 = _ := y1_eq V0
  have h2 : res_main_v320 V0 = _ := y2_eq V0
  rw [res_main_v327, v3_eq, l30_eq, l31_eq, l32_eq, l33_eq, h0, h1, h2]; funext j
  simp only [line, y3, factor4, step3_reads]
  simp only [factor3, step2_reads]
  simp only [factor2, step1_reads]

/-- The fourth coefficient with four atoms selected. -/
theorem c43_eq : res_main_v219 V0 = fun j => (factor4 (B V0) (M V0) j).c43 := by
  have h : res_main_v219 V0 = Host.divf (res_main_v327 V0) (res_main_v198 V0) := rfl
  rw [h, y3_eq, l33_eq]; funext j
  simp only [line, c43]

/-- The third coefficient with four atoms selected. -/
theorem c42_eq : res_main_v222 V0 = fun j => (factor4 (B V0) (M V0) j).c42 := by
  rw [res_main_v222, y2_eq, l32_eq, c43_eq, l22_eq]; funext j
  simp only [line, c42, factor4, step3_reads]

/-- The second coefficient with four atoms selected. -/
theorem c41_eq : res_main_v227 V0 = fun j => (factor4 (B V0) (M V0) j).c41 := by
  have h1 : res_main_v206 V0 = _ := y1_eq V0
  rw [res_main_v227, h1, l21_eq, c42_eq, l31_eq, c43_eq, l11_eq]; funext j
  simp only [line, c41, factor4, step3_reads]
  simp only [factor3, step2_reads]

/-- The first coefficient with four atoms selected. -/
theorem c40_eq : Host.divf (subf (subf (subf (res_main_v203 V0) (mulf (res_main_v57 V0) (res_main_v227 V0)))
    (mulf (res_main_v107 V0) (res_main_v222 V0))) (mulf (res_main_v179 V0) (res_main_v219 V0))) (res_main_v27 V0)
      = fun j => (factor4 (B V0) (M V0) j).c40 := by
  have h0 : res_main_v203 V0 = _ := y0_eq V0
  rw [h0, l10_eq, c41_eq, l20_eq, c42_eq, l30_eq, c43_eq, ones_eq]; funext j
  simp only [line, constants, c40, factor4, step3_reads]
  simp only [factor3, step2_reads]
  simp only [factor2, step1_reads]

/-- The buffer of the fifth selection's scores. -/
theorem score4_eq : res_main_v254 V0 = score4 (B V0) (M V0) := by
  rw [res_main_v254, c40_eq, c41_eq, c42_eq, c43_eq, row0_eq, row1_eq, row2_eq, row3_eq, free4_eq]; rfl

/-! ### The fifth -/

/-- The buffer of the fifth selection. -/
theorem pick4_eq : res_main_v261 V0 = pick4 (B V0) (M V0) := by
  rw [res_main_v261, score4_eq]; rfl

/-- The buffer of the first entry of the factor's fifth row. -/
theorem l40_eq : res_main_v279 V0 = fun j => (factor5 (B V0) (M V0) j).l40 := by
  have h : res_main_v279 V0 = Host.divf (valueAt (res_main_v28 V0) (res_main_v261 V0)) (res_main_v27 V0) := rfl
  rw [h, pick4_eq, row0_eq, ones_eq]; funext j
  simp only [line, constants, l40, factor5, step4_reads]

/-- The buffer of the second entry of the factor's fifth row. -/
theorem l41_eq : res_main_v282 V0 = fun j => (factor5 (B V0) (M V0) j).l41 := by
  have h : res_main_v282 V0 = Host.divf (subf (valueAt (res_main_v65 V0) (res_main_v261 V0))
    (mulf (res_main_v57 V0) (res_main_v279 V0))) (res_main_v64 V0) := rfl
  rw [h, pick4_eq, row1_eq, l10_eq, l11_eq, l40_eq]; funext j
  simp only [line, l41, factor5, step4_reads]
  simp only [factor4, step3_reads]
  simp only [factor3, step2_reads]

/-- The buffer of the third entry of the factor's fifth row. -/
theorem l42_eq : res_main_v287 V0 = fun j => (factor5 (B V0) (M V0) j).l42 := by
  have h : res_main_v287 V0 = Host.divf (subf (subf (valueAt (res_main_v120 V0) (res_main_v261 V0))
    (mulf (res_main_v107 V0) (res_main_v279 V0))) (mulf (res_main_v110 V0) (res_main_v282 V0))) (res_main_v119 V0) := rfl
  rw [h, pick4_eq, row2_eq, l20_eq, l21_eq, l22_eq, l40_eq, l41_eq]; funext j
  simp only [line, l42, factor5, step4_reads]
  simp only [factor4, step3_reads]

/-- The buffer of the fourth entry of the factor's fifth row. -/
theorem l43_eq : res_main_v294 V0 = fun j => (factor5 (B V0) (M V0) j).l43 := by
  have h : res_main_v294 V0 = Host.divf (subf (subf (subf (valueAt (res_main_v199 V0) (res_main_v261 V0))
    (mulf (res_main_v179 V0) (res_main_v279 V0))) (mulf (res_main_v182 V0) (res_main_v282 V0)))
    (mulf (res_main_v187 V0) (res_main_v287 V0))) (res_main_v198 V0) := rfl
  rw [h, pick4_eq, row3_eq, l30_eq, l31_eq, l32_eq, l33_eq, l40_eq, l41_eq, l42_eq]; funext j
  simp only [line, l43, factor5, step4_reads]

/-- The buffer of the fifth entry of the factor's fifth row. -/
theorem l44_eq : res_main_v307 V0 = fun j => (factor5 (B V0) (M V0) j).l44 := by
  have h : res_main_v307 V0 = Host.sqrt (subf ones (addf (addf (addf (addf zeros
    (mulf (res_main_v279 V0) (res_main_v279 V0))) (mulf (res_main_v282 V0) (res_main_v282 V0)))
    (mulf (res_main_v287 V0) (res_main_v287 V0))) (mulf (res_main_v294 V0) (res_main_v294 V0)))) := rfl
  rw [h, l40_eq, l41_eq, l42_eq, l43_eq]; funext j
  simp only [line_sqrt, line, constants, l44]

/-- The fifth coefficient with five atoms selected. -/
theorem c54_eq : res_main_v337 V0 = fun j => (factor5 (B V0) (M V0) j).c54 := by
  have h : res_main_v337 V0 = Host.divf (Host.divf (subf (subf (subf (subf (valueAt (B V0) (res_main_v261 V0))
    (mulf (res_main_v279 V0) (res_main_v312 V0))) (mulf (res_main_v282 V0) (res_main_v315 V0)))
    (mulf (res_main_v287 V0) (res_main_v320 V0))) (mulf (res_main_v294 V0) (res_main_v327 V0))) (res_main_v307 V0))
    (res_main_v307 V0) := rfl
  have h0 : res_main_v312 V0 = _ := y0_eq V0
  have h1 : res_main_v315 V0 = _ := y1_eq V0
  have h2 : res_main_v320 V0 = _ := y2_eq V0
  rw [h, pick4_eq, h0, h1, h2, y3_eq, l40_eq, l41_eq, l42_eq, l43_eq, l44_eq]; funext j
  simp only [line, c54, y4, factor5, step4_reads]
  simp only [factor4, step3_reads]
  simp only [factor3, step2_reads]
  simp only [factor2, step1_reads]

/-- The fourth coefficient with five atoms selected. -/
theorem c53_eq : res_main_v340 V0 = fun j => (factor5 (B V0) (M V0) j).c53 := by
  rw [res_main_v340, y3_eq, l43_eq, c54_eq, l33_eq]; funext j
  simp only [line, c53, factor5, step4_reads]

/-- The third coefficient with five atoms selected. -/
theorem c52_eq : res_main_v345 V0 = fun j => (factor5 (B V0) (M V0) j).c52 := by
  have h2 : res_main_v320 V0 = _ := y2_eq V0
  rw [res_main_v345, h2, l32_eq, c53_eq, l42_eq, c54_eq, l22_eq]; funext j
  simp only [line, c52, factor5, step4_reads]
  simp only [factor4, step3_reads]

/-- The second coefficient with five atoms selected. -/
theorem c51_eq : res_main_v352 V0 = fun j => (factor5 (B V0) (M V0) j).c51 := by
  have h1 : res_main_v315 V0 = _ := y1_eq V0
  rw [res_main_v352, h1, l21_eq, c52_eq, l31_eq, c53_eq, l41_eq, c54_eq, l11_eq]; funext j
  simp only [line, c51, factor5, step4_reads]
  simp only [factor4, step3_reads]
  simp only [factor3, step2_reads]

/-- The first coefficient with five atoms selected. -/
theorem c50_eq : res_main_v361 V0 = fun j => (factor5 (B V0) (M V0) j).c50 := by
  have h0 : res_main_v312 V0 = _ := y0_eq V0
  rw [res_main_v361, h0, l10_eq, c51_eq, l20_eq, c52_eq, l30_eq, c53_eq, l40_eq, c54_eq, ones_eq]; funext j
  simp only [line, constants, c50, factor5, step4_reads]
  simp only [factor4, step3_reads]
  simp only [factor3, step2_reads]
  simp only [factor2, step1_reads]

/-! ### The results -/

/-- The correlations are those of the arguments. -/
theorem corr_eq : res_main_v10 V0 = corr (V0 (Proc.devRef .tc main_arg0)) (V0 (Proc.devRef .tc main_arg1)) := rfl

/-- The Gram matrix is that of the dictionary. -/
theorem gram_eq : res_main_v7 V0 = gram (V0 (Proc.devRef .tc main_arg1)) := rfl

/-- The coefficients, one signal to a column. -/
theorem codes_eq :
    transpose S512x16384 [1, 0] (coefficients (B V0) (M V0)) transposes_S16384x512_S512x16384_1_0
      = codes (V0 (Proc.devRef .tc main_arg0)) (V0 (Proc.devRef .tc main_arg1)) := by
  unfold B M; rw [corr_eq, gram_eq]; rfl

/-- The rebuilt signals. -/
theorem rebuilt_eq : res_main_v413 V0 = rebuilt (V0 (Proc.devRef .tc main_arg0)) (V0 (Proc.devRef .tc main_arg1)) := by
  rw [rebuilt, ← codes_eq, res_main_v413, pick4_eq, pick3_eq, pick2_eq, pick1_eq, pick0_eq, c54_eq, c53_eq, c52_eq, c51_eq,
    c50_eq]; rfl

/-- The reference leaves its three results in their places and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v426)
          = straightThrough (m ((c.tc : Thread nD τ).loc main_arg0)) (m ((c.tc : Thread nD τ).loc main_arg1))
      ∧ r.2.mem ((c.tc : Thread nD τ).loc main_v423)
          = loss (m ((c.tc : Thread nD τ).loc main_arg0)) (m ((c.tc : Thread nD τ).loc main_arg1))
      ∧ r.2.mem ((c.tc : Thread nD τ).loc main_v411)
          = codes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run m ρ)
  obtain ⟨h0, h1, h2, ha, hb⟩ := h c
  refine ⟨h0.trans ?_, h1.trans ?_, h2.trans ?_, ha, hb⟩
  · rw [rebuilt_eq]; rfl
  · rw [res_main_v414, res_main_v419, rebuilt_eq]; rfl
  · rw [pick4_eq, pick3_eq, pick2_eq, pick1_eq, pick0_eq, c54_eq, c53_eq, c52_eq, c51_eq, c50_eq]
    exact codes_eq (launchContents m c)

end Cert.Signals

end
-- ==== Proof.SignalReads.lean ====
/- The reference's operations read at one signal: a row's greatest score, the first atom that attains it, the value and
   the Gram row at a chosen atom, the masks; and one greatest score alone, from the count of the greatest. -/
module

public import proofs.«01_k».proof.Proof.Generic
public import Idealize.ShloMosaic.Lib.StableHlo.Predicate
public import Idealize.ShloMosaic.Lib.Routing.Ops
public import Idealize.ShloMosaic.Lib.ReduceAll
public import Idealize.ShloMosaic.Lib.WordCmp

@[expose] public section

set_option maxRecDepth 16384

noncomputable section

namespace Cert.Signals

open Idealize.ShloMosaic Idealize.ShloMosaic.ValueIdx Cert.ReferenceIdeal Cert.ReferenceIdeal.Gen Cert.Pursuit

/-- The index of a signal. -/
abbrev Signal : Type := Fin 16384

/-- The index of a signal and an atom. -/
abbrev at2 (n : Signal) (a : Atom) : S16384x512.Idx := ix2 n a

/-- The index of a signal. -/
abbrev at1 (n : Signal) : S16384.Idx := ix1 n

/-- A line repeated for every atom reads the line at the signal. -/
theorem spread_apply {α : Type} (x : S16384.Idx → α) (n : Signal) (a : Atom) : spread x (at2 n a) = x (at1 n) := by
  refine congrArg x (funext fun i => ?_)
  have hi : i = 0 := Subsingleton.elim _ _
  subst hi
  rfl

/-- A filled table reads its constant. -/
theorem fill_apply {α : Type} (x : α) (i : S16384x512.Idx) : fill (fun _ => x) i = x := rfl

/-- The entries a reduction over the atoms reads are the signal's. -/
theorem drop_eq_iff (i : S16384x512.Idx) (n : Signal) : reducesTo_S16384x512_S16384_d1.drop i = at1 n ↔ i 0 = n := by
  have hv : (reducesTo_S16384x512_S16384_d1.drop i 0 : ℕ) = i 0 := Shape.ReducesTo.drop_apply_val _ i 0
  constructor
  · intro h
    rw [h] at hv
    exact Fin.ext hv.symm
  · intro h
    funext k
    have hk : k = 0 := Subsingleton.elim _ _
    subst hk
    exact Fin.ext (hv.trans (congrArg Fin.val h))

/-- An entry of a signal is that of one of its atoms. -/
theorem exists_at2 (i : S16384x512.Idx) (n : Signal) (h : i 0 = n) : ∃ a, i = at2 n a := by
  subst h; exact ⟨i 1, eq_ix2 i⟩

/-- The greatest score of each signal. -/
def rowLine (s : Table) : Line :=
  Host.reduce FloatOps.maximumf s (constant S_ .f32 0xFF800000#32) reducesTo_S16384x512_S16384_d1 h_S_

/-- The greatest score of a signal. -/
def rowMax (s : Table) (n : Signal) : EReal := rowLine s (at1 n)

/-- The greatest score of a signal is the greatest of its entries. -/
theorem rowMax_eq (s : Table) (n : Signal) :
    rowMax s n = (Finset.univ.filter fun i => reducesTo_S16384x512_S16384_d1.drop i = at1 n).fold max
      (Ideal.ofBits .f32 0xFF800000#32) s := by
  rw [rowMax, rowLine, Host.reduce_eq_fold]
  rfl

/-- No score of a signal exceeds its greatest. -/
theorem le_rowMax (s : Table) (n : Signal) (a : Atom) : s (at2 n a) ≤ rowMax s n := by
  rw [rowMax_eq, Finset.le_fold_max]
  exact Or.inr ⟨at2 n a, Finset.mem_filter.2 ⟨Finset.mem_univ _, (drop_eq_iff _ _).2 rfl⟩, le_rfl⟩

/-- The constant a maximum starts from is minus infinity. -/
theorem lowest : Ideal.ofBits .f32 0xFF800000#32 = (⊥ : EReal) := by
  simp [Ideal.ofBits, Ideal.ieee]

/-- Some atom attains the greatest score. -/
theorem exists_rowMax (s : Table) (n : Signal) : ∃ a, s (at2 n a) = rowMax s n := by
  have h : rowMax s n ≤ rowMax s n := le_rfl
  conv at h => rhs; rw [rowMax_eq]
  rcases (Finset.le_fold_max _).1 h with h | ⟨i, hi, h⟩
  · rw [lowest] at h
    exact ⟨0, le_antisymm (le_rowMax s n 0) (h.trans bot_le)⟩
  · have hi := (drop_eq_iff i n).1 (Finset.mem_filter.1 hi).2
    obtain ⟨a, rfl⟩ := exists_at2 i n hi
    exact ⟨a, le_antisymm (le_rowMax s n _) h⟩

/-- The bit of an atom is one exactly when its score is the signal's greatest. -/
theorem greatest_apply (s : Table) (n : Signal) (a : Atom) : greatest s (at2 n a) = 1#1 ↔ s (at2 n a) = rowMax s n := by
  have h : greatest s = cmpf .oeq s (spread (rowLine s)) := rfl
  rw [h, cmpf_apply, spread_apply]
  show Ideal.cmp .oeq (s (at2 n a)) (rowMax s n) = 1#1 ↔ _
  by_cases h' : s (at2 n a) = rowMax s n <;> simp [Ideal.cmp, h']

/-- One greatest score alone. -/
theorem top_of_ties (s : Table) (n : Signal) (h : ties s (at1 n) = 1#32) : ∃ p, Top (fun a => s (at2 n a)) p := by
  have hc := StableHlo.Predicate.toNat_reduce_count_cols (by norm_num) (greatest s) Cert.Pre_generic.Gen.natLt_1_32
    reducesTo_S16384x512_S16384_d1 h_S_ (at1 n)
  rw [show Host.reduce _ _ _ _ _ (at1 n) = 1#32 from h] at hc
  obtain ⟨p, hp⟩ := Finset.card_eq_one.1 hc.symm
  have hmem : ∀ q : Atom, s (at2 n q) = rowMax s n ↔ q = p := fun q => by
    have := Finset.ext_iff.1 hp q
    rw [Finset.mem_filter, Finset.mem_singleton] at this
    exact (greatest_apply s n q).symm.trans ((and_iff_right (Finset.mem_univ _)).symm.trans this)
  refine ⟨p, fun q hq => ?_⟩
  show s (at2 n q) < s (at2 n p)
  rw [(hmem p).2 rfl]
  exact lt_of_le_of_ne (le_rowMax s n q) fun e => hq ((hmem q).1 e)

/-- The least word of a finite family one of whose members lies below the others. -/
theorem fold_minsi {ι : Type} [DecidableEq ι] (f : ι → BitVec 32) (init m : BitVec 32) (hi : m.slt init) (S : Finset ι)
    (hf : ∀ i ∈ S, f i = m ∨ m.slt (f i)) :
    (S.fold IntOp.minsi init f = m ∨ m.slt (S.fold IntOp.minsi init f))
      ∧ ((∃ i ∈ S, f i = m) → S.fold IntOp.minsi init f = m) := by
  induction S using Finset.induction_on with
  | empty => exact ⟨Or.inr hi, fun ⟨i, h, _⟩ => absurd h (Finset.notMem_empty i)⟩
  | insert a S ha ih =>
    obtain ⟨ih1, ih2⟩ := ih fun i h => hf i (Finset.mem_insert_of_mem h)
    have hfa := hf a (Finset.mem_insert_self a S)
    rw [Finset.fold_insert ha]
    generalize S.fold IntOp.minsi init f = w at ih1 ih2
    have key : ∀ u v : BitVec 32, (u = m ∨ m.slt u) → (v = m ∨ m.slt v) →
        ((IntOp.minsi u v = m ∨ m.slt (IntOp.minsi u v)) ∧ (u = m ∨ v = m → IntOp.minsi u v = m)) := by
      intro u v hu hv
      simp only [BitVec.slt_iff_toInt_lt, IntOp.minsi] at *
      split
      all_goals
        refine ⟨by assumption, ?_⟩
        rintro (h | h)
        · subst h; grind
        · subst h; grind
    refine ⟨(key _ _ hfa ih1).1, fun ⟨i, h, e⟩ => (key _ _ hfa ih1).2 ?_⟩
    rcases Finset.mem_insert.1 h with h | h
    · subst h; exact Or.inl e
    · exact Or.inr (ih2 ⟨i, h, e⟩)

/-- The word of an atom lies below that of a greater number. -/
theorem word_lt (p : Atom) (k : ℕ) (h : p.val < k) (hk : k < 2 ^ 31) : (BitVec.ofNat 32 p.val).slt (BitVec.ofNat 32 k) := by
  rw [BitVec.slt_iff_toInt_lt, StableHlo.Predicate.toInt_ofNat_small _ (by omega),
    StableHlo.Predicate.toInt_ofNat_small _ (by omega)]
  exact_mod_cast h

/-- Different atoms have different words. -/
theorem word_eq_iff (a p : Atom) : BitVec.ofNat 32 a.val = BitVec.ofNat 32 p.val ↔ a = p := by
  constructor
  · intro h
    have := congrArg BitVec.toNat h
    simp only [BitVec.toNat_ofNat] at this
    exact Fin.ext (by omega)
  · rintro rfl; rfl

/-- The atom chosen is the one whose score is the greatest. -/
theorem choose_apply (s : Table) (n : Signal) (p : Atom) (h : Top (fun a => s (at2 n a)) p) :
    choose s (at1 n) = BitVec.ofNat 32 p.val := by
  have hmax : rowMax s n = s (at2 n p) := by
    obtain ⟨a, ha⟩ := exists_rowMax s n
    by_cases e : a = p
    · rw [← ha, e]
    · have hle := le_rowMax s n p
      rw [← ha] at hle
      exact absurd hle (not_le.2 (h a e))
  have hval : ∀ a, select (greatest s) (iotaInDim S16384x512 32 1) (fill (constantI S_ 32 512#32)) (at2 n a)
      = if a = p then BitVec.ofNat 32 p.val else 512#32 := by
    intro a
    rw [select_apply]
    by_cases e : a = p
    · subst e
      rw [(greatest_apply s n a).2 hmax.symm, if_pos rfl]; rfl
    · have h1 : greatest s (at2 n a) ≠ 1#1 := fun e' =>
        absurd ((greatest_apply s n a).1 e') (by rw [hmax]; exact ne_of_lt (h a e))
      have h0 : greatest s (at2 n a) = 0#1 := by
        revert h1; generalize greatest s (at2 n a) = w; revert w; decide
      rw [h0, if_neg e]; rfl
  rw [choose, Host.reduce_eq_fold]
  refine (fold_minsi _ _ (BitVec.ofNat 32 p.val) (word_lt p 2147483647 (by omega) (by norm_num)) _ fun i hi => ?_).2
    ⟨at2 n p, Finset.mem_filter.2 ⟨Finset.mem_univ _, (drop_eq_iff _ _).2 rfl⟩, by rw [hval, if_pos rfl]⟩
  obtain ⟨a, rfl⟩ := exists_at2 i n ((drop_eq_iff i n).1 (Finset.mem_filter.1 hi).2)
  rw [hval]
  split
  · exact Or.inl rfl
  · exact Or.inr (word_lt p 512 p.isLt (by norm_num))

/-- The bit of an atom is one exactly when it is the chosen one. -/
theorem hits_apply (i : Choice) (n : Signal) (p a : Atom) (h : i (at1 n) = BitVec.ofNat 32 p.val) :
    hits i (at2 n a) = if a = p then 1#1 else 0#1 := by
  have e : hits i (at2 n a) = IntOp.cmpi .eq (BitVec.ofNat 32 a.val) (spread i (at2 n a)) := rfl
  rw [e, spread_apply, h]
  by_cases hap : a = p
  · subst hap; simp [IntOp.cmpi]
  · rw [if_neg hap]
    have := mt (word_eq_iff a p).1 hap
    simp [IntOp.cmpi, beq_eq_false_iff_ne.2 this]

/-- A select by the chosen atom. -/
theorem select_hits (i : Choice) (x y : Table) (n : Signal) (p a : Atom) (h : i (at1 n) = BitVec.ofNat 32 p.val) :
    select (hits i) x y (at2 n a) = if a = p then x (at2 n a) else y (at2 n a) := by
  rw [select_apply, hits_apply i n p a h]
  by_cases hap : a = p
  · rw [if_pos hap, if_pos hap]; rfl
  · rw [if_neg hap, if_neg hap]; rfl

/-- The Gram row at the chosen atom. -/
theorem gramRow_apply (g : FVec Ideal S512x512 .f32) (i : Choice) (n : Signal) (p a : Atom)
    (h : i (at1 n) = BitVec.ofNat 32 p.val) : gramRow g i (at2 n a) = g (ix2 p a) :=
  Routing.gather_row gather_S512x512_S16384x1_S16384x512_1_0_n_n_0_1_1512 rfl rfl rfl rfl rfl g _ n a p
    ((congrArg i (funext fun k => by have hk : k = 0 := Subsingleton.elim _ _; subst hk; rfl)).trans h) (by norm_num)

/-- The place of a choice: the word itself, which is not negative. -/
theorem place_apply (i : Choice) (n : Signal) (p : Atom) (h : i (at1 n) = BitVec.ofNat 32 p.val) :
    place i (ix3 n (0 : Fin 1) (0 : Fin 1)) = BitVec.ofNat 32 p.val := by
  have e : broadcastInDim S16384x1 ![0] bcast_S16384_S16384x1_0 i (ix2 n (0 : Fin 1)) = BitVec.ofNat 32 p.val :=
    (congrArg i (funext fun k => by have hk : k = 0 := Subsingleton.elim _ _; subst hk; rfl)).trans h
  rw [place, shapeCast_apply _ _ (ix3 n (0 : Fin 1) (0 : Fin 1)) (ix2 n (0 : Fin 1))
    (by rw [Shape.rowMajor_val_two, Shape.rowMajor_val_three]; show n.val * 1 + 0 = (n.val * 1 + 0) * 1 + 0; omega), select_apply]
  have hs : cmpi .slt (broadcastInDim S16384x1 ![0] bcast_S16384_S16384x1_0 i)
      (broadcastInDim S16384x1 ![] bcast_S_S16384x1 (constantI S_ 32 0#32)) (ix2 n (0 : Fin 1)) = 0#1 := by
    show IntOp.cmpi .slt (broadcastInDim S16384x1 ![0] bcast_S16384_S16384x1_0 i (ix2 n (0 : Fin 1))) 0#32 = 0#1
    rw [e]
    have hn : ¬ (BitVec.ofNat 32 p.val).slt 0#32 := by
      rw [BitVec.slt_iff_toInt_lt, StableHlo.Predicate.toInt_ofNat_small _ (by omega)]
      simp
    simp only [IntOp.cmpi, hn]; rfl
  rw [hs, select_zero, e]

/-- The value at the chosen atom. -/
theorem valueAt_apply (x : Table) (i : Choice) (n : Signal) (p : Atom) (h : i (at1 n) = BitVec.ofNat 32 p.val) :
    valueAt x i (at1 n) = x (at2 n p) := by
  rw [valueAt, shapeCast_apply _ _ (at1 n) (ix2 n (0 : Fin 1))
    (by rw [Shape.rowMajor_val_two, Shape.rowMajor_val_one]; show n.val * 1 + 0 = n.val; omega)]
  refine congrArg x (funext fun k => Fin.ext ?_)
  match k with
  | ⟨0, _⟩ =>
    show 0 + n.val + 0 = n.val
    omega
  | ⟨1, _⟩ =>
    have hsi : gather_S16384x512_S16384x1x1_S16384x1_n_1_0_0_1_2_11.siIdx (ix2 n (0 : Fin 1)) ⟨0, by decide⟩
        = ix3 n (0 : Fin 1) (0 : Fin 1) := by
      funext b
      match b with
      | ⟨0, _⟩ => rfl
      | ⟨1, _⟩ => rfl
      | ⟨2, _⟩ => rfl
    show min (place i (gather_S16384x512_S16384x1x1_S16384x1_n_1_0_0_1_2_11.siIdx (ix2 n (0 : Fin 1)) ⟨0, by decide⟩)).toInt.toNat
      (512 - 1) + 0 + 0 = p.val
    rw [hsi, place_apply i n p h, StableHlo.Predicate.toInt_ofNat_small _ (by omega)]
    have := p.isLt
    show min ((p.val : ℤ)).toNat _ + 0 + 0 = p.val
    omega

end Cert.Signals

end
-- ==== Proof.SignalValue.lean ====
/- What the reference computes of one signal: where each selection has one greatest score alone, the five selections are
   those of the pursuit on the signal's correlations, and the coefficients are the pursuit's. -/
module

public import proofs.«01_k».proof.Proof.SignalReads

@[expose] public section

set_option maxRecDepth 16384

noncomputable section

namespace Cert.Signals

open Idealize.ShloMosaic Idealize.ShloMosaic.ValueIdx Cert.ReferenceIdeal Cert.ReferenceIdeal.Gen Cert.Pursuit

/-- An atom as a word. -/
abbrev word (p : Atom) : BitVec 32 := BitVec.ofNat 32 p.val

/-- The arithmetic of tables, entry by entry. -/
theorem table (x y : Table) (i : S16384x512.Idx) :
    subf x y i = x i - y i ∧ mulf x y i = x i * y i ∧ addf x y i = x i + y i ∧ score x y i = mag (x i * y i) :=
  ⟨rfl, rfl, rfl, rfl⟩

/-- A sum of rows starts from zero. -/
theorem none_apply (i : S16384x512.Idx) : none i = zero := rfl

/-- Before any selection every atom is free. -/
theorem free0_apply (i : S16384x512.Idx) : free0 i = one := rfl

/-- The mask with a chosen atom taken off it. -/
theorem drop_apply (free : Table) (i : Choice) (n : Signal) (p a : Atom) (h : i (at1 n) = word p) :
    drop free i (at2 n a) = if a = p then zero else free (at2 n a) := by
  rw [drop, select_hits _ _ _ n p a h]; rfl

section

variable (b : Table) (g : FVec Ideal S512x512 .f32) (n : Signal)

/-- The correlations of one signal. -/
abbrev corrOf (a : Atom) : EReal := b (at2 n a)

/-- The Gram matrix by pairs of atoms. -/
abbrev pairs (p a : Atom) : EReal := g (ix2 p a)

variable (p0 p1 p2 p3 p4 : Atom)

/-- The scores of the first selection are the pursuit's. -/
theorem score0_apply (a : Atom) : score0 b (at2 n a) = mag (corrOf b n a * one) := rfl

section

variable (h0 : pick0 b (at1 n) = word p0)
include h0

/-- The Gram row of the first selected atom is the pursuit's. -/
theorem row0_apply (a : Atom) : row0 b g (at2 n a) = pairs g p0 a := gramRow_apply g _ n p0 a h0

/-- The mask after the first selection is the pursuit's. -/
theorem free1_apply (a : Atom) : Signals.free1 b (at2 n a) = Pursuit.free1 p0 a := by
  rw [Signals.free1, drop_apply _ _ n p0 a h0]; rfl

/-- The leaves after the first selection are the pursuit's. -/
theorem factor1_apply : factor1 b (at1 n) = leaves1 (corrOf b n) p0 := by
  rw [factor1, valueAt_apply _ _ n p0 h0]; rfl

/-- The scores of the second selection are the pursuit's. -/
theorem score1_apply (a : Atom) :
    score1 b g (at2 n a) = mag (corr1 (corrOf b n) (pairs g) p0 a * Pursuit.free1 p0 a) := by
  simp only [score1, rest1, table, none_apply, spread_apply, free1_apply b n p0 h0, row0_apply b g n p0 h0,
    factor1_apply b n p0 h0, zero_eq, zero_add, corr1]

variable (h1 : pick1 b g (at1 n) = word p1)
include h1

/-- The Gram row of the second selected atom is the pursuit's. -/
theorem row1_apply (a : Atom) : row1 b g (at2 n a) = pairs g p1 a := gramRow_apply g _ n p1 a h1

/-- The mask after the second selection is the pursuit's. -/
theorem free2_apply (a : Atom) : Signals.free2 b g (at2 n a) = Pursuit.free2 p0 p1 a := by
  rw [Signals.free2, drop_apply _ _ n p1 a h1, free1_apply b n p0 h0]; rfl

/-- The leaves after the second selection are the pursuit's. -/
theorem factor2_apply : factor2 b g (at1 n) = leaves2 (corrOf b n) (pairs g) p0 p1 := by
  rw [factor2, valueAt_apply _ _ n p1 h1, valueAt_apply _ _ n p1 h1, row0_apply b g n p0 h0, factor1_apply b n p0 h0]; rfl

/-- The scores of the third selection are the pursuit's. -/
theorem score2_apply (a : Atom) :
    score2 b g (at2 n a) = mag (corr2 (corrOf b n) (pairs g) p0 p1 a * Pursuit.free2 p0 p1 a) := by
  simp only [score2, rest2, table, none_apply, spread_apply, free2_apply b g n p0 p1 h0 h1, row0_apply b g n p0 h0,
    row1_apply b g n p0 p1 h0 h1, factor2_apply b g n p0 p1 h0 h1, zero_eq, zero_add, corr2]

variable (h2 : pick2 b g (at1 n) = word p2)
include h2

/-- The Gram row of the third selected atom is the pursuit's. -/
theorem row2_apply (a : Atom) : row2 b g (at2 n a) = pairs g p2 a := gramRow_apply g _ n p2 a h2

/-- The mask after the third selection is the pursuit's. -/
theorem free3_apply (a : Atom) : Signals.free3 b g (at2 n a) = Pursuit.free3 p0 p1 p2 a := by
  rw [Signals.free3, drop_apply _ _ n p2 a h2, free2_apply b g n p0 p1 h0 h1]; rfl

/-- The leaves after the third selection are the pursuit's. -/
theorem factor3_apply : factor3 b g (at1 n) = leaves3 (corrOf b n) (pairs g) p0 p1 p2 := by
  rw [factor3, valueAt_apply _ _ n p2 h2, valueAt_apply _ _ n p2 h2, valueAt_apply _ _ n p2 h2, row0_apply b g n p0 h0,
    row1_apply b g n p0 p1 h0 h1, factor2_apply b g n p0 p1 h0 h1]; rfl

/-- The scores of the fourth selection are the pursuit's. -/
theorem score3_apply (a : Atom) :
    score3 b g (at2 n a) = mag (corr3 (corrOf b n) (pairs g) p0 p1 p2 a * Pursuit.free3 p0 p1 p2 a) := by
  simp only [score3, rest3, table, none_apply, spread_apply, free3_apply b g n p0 p1 p2 h0 h1 h2, row0_apply b g n p0 h0,
    row1_apply b g n p0 p1 h0 h1, row2_apply b g n p0 p1 p2 h0 h1 h2, factor3_apply b g n p0 p1 p2 h0 h1 h2, zero_eq,
    zero_add, corr3]

variable (h3 : pick3 b g (at1 n) = word p3)
include h3

/-- The Gram row of the fourth selected atom is the pursuit's. -/
theorem row3_apply (a : Atom) : row3 b g (at2 n a) = pairs g p3 a := gramRow_apply g _ n p3 a h3

/-- The mask after the fourth selection is the pursuit's. -/
theorem free4_apply (a : Atom) : Signals.free4 b g (at2 n a) = Pursuit.free4 p0 p1 p2 p3 a := by
  rw [Signals.free4, drop_apply _ _ n p3 a h3, free3_apply b g n p0 p1 p2 h0 h1 h2]; rfl

/-- The leaves after the fourth selection are the pursuit's. -/
theorem factor4_apply : factor4 b g (at1 n) = leaves4 (corrOf b n) (pairs g) p0 p1 p2 p3 := by
  rw [factor4, valueAt_apply _ _ n p3 h3, valueAt_apply _ _ n p3 h3, valueAt_apply _ _ n p3 h3, valueAt_apply _ _ n p3 h3,
    row0_apply b g n p0 h0, row1_apply b g n p0 p1 h0 h1, row2_apply b g n p0 p1 p2 h0 h1 h2,
    factor3_apply b g n p0 p1 p2 h0 h1 h2]; rfl

/-- The scores of the fifth selection are the pursuit's. -/
theorem score4_apply (a : Atom) :
    score4 b g (at2 n a) = mag (corr4 (corrOf b n) (pairs g) p0 p1 p2 p3 a * Pursuit.free4 p0 p1 p2 p3 a) := by
  simp only [score4, rest4, table, none_apply, spread_apply, free4_apply b g n p0 p1 p2 p3 h0 h1 h2 h3,
    row0_apply b g n p0 h0, row1_apply b g n p0 p1 h0 h1, row2_apply b g n p0 p1 p2 h0 h1 h2,
    row3_apply b g n p0 p1 p2 p3 h0 h1 h2 h3, factor4_apply b g n p0 p1 p2 p3 h0 h1 h2 h3, zero_eq, zero_add, corr4]

variable (h4 : pick4 b g (at1 n) = word p4)
include h4

/-- The leaves after the fifth selection are the pursuit's. -/
theorem factor5_apply : factor5 b g (at1 n) = leaves5 (corrOf b n) (pairs g) p0 p1 p2 p3 p4 := by
  rw [factor5, valueAt_apply _ _ n p4 h4, valueAt_apply _ _ n p4 h4, valueAt_apply _ _ n p4 h4, valueAt_apply _ _ n p4 h4,
    valueAt_apply _ _ n p4 h4, row0_apply b g n p0 h0, row1_apply b g n p0 p1 h0 h1, row2_apply b g n p0 p1 p2 h0 h1 h2,
    row3_apply b g n p0 p1 p2 p3 h0 h1 h2 h3, factor4_apply b g n p0 p1 p2 p3 h0 h1 h2 h3]; rfl

/-- The coefficients of the signal are the pursuit's. -/
theorem coefficients_apply (a : Atom) :
    coefficients b g (at2 n a) = coefficient (corrOf b n) (pairs g) p0 p1 p2 p3 p4 a := by
  rw [coefficients, select_hits _ _ _ n p4 a h4, select_hits _ _ _ n p3 a h3, select_hits _ _ _ n p2 a h2,
    select_hits _ _ _ n p1 a h1, select_hits _ _ _ n p0 a h0]
  simp only [spread_apply, factor5_apply b g n p0 p1 p2 p3 p4 h0 h1 h2 h3 h4, none_apply, coefficient]

end

/-- Where each selection has one greatest score alone, the reference's coefficients of the signal are the pursuit's. -/
theorem exists_greedy (u0 : ties (score0 b) (at1 n) = 1#32) (u1 : ties (score1 b g) (at1 n) = 1#32)
    (u2 : ties (score2 b g) (at1 n) = 1#32) (u3 : ties (score3 b g) (at1 n) = 1#32)
    (u4 : ties (score4 b g) (at1 n) = 1#32) :
    ∃ p0 p1 p2 p3 p4, Greedy (corrOf b n) (pairs g) p0 p1 p2 p3 p4
      ∧ ∀ a, coefficients b g (at2 n a) = coefficient (corrOf b n) (pairs g) p0 p1 p2 p3 p4 a := by
  obtain ⟨p0, t0⟩ := top_of_ties _ n u0
  have h0 : pick0 b (at1 n) = word p0 := choose_apply _ n p0 t0
  obtain ⟨p1, t1⟩ := top_of_ties _ n u1
  have h1 : pick1 b g (at1 n) = word p1 := choose_apply _ n p1 t1
  obtain ⟨p2, t2⟩ := top_of_ties _ n u2
  have h2 : pick2 b g (at1 n) = word p2 := choose_apply _ n p2 t2
  obtain ⟨p3, t3⟩ := top_of_ties _ n u3
  have h3 : pick3 b g (at1 n) = word p3 := choose_apply _ n p3 t3
  obtain ⟨p4, t4⟩ := top_of_ties _ n u4
  have h4 : pick4 b g (at1 n) = word p4 := choose_apply _ n p4 t4
  simp only [score0_apply, score1_apply b g n p0 h0, score2_apply b g n p0 p1 h0 h1, score3_apply b g n p0 p1 p2 h0 h1 h2,
    score4_apply b g n p0 p1 p2 p3 h0 h1 h2 h3] at t0 t1 t2 t3 t4
  exact ⟨p0, p1, p2, p3, p4, ⟨t0, t1, t2, t3, t4⟩, coefficients_apply b g n p0 p1 p2 p3 p4 h0 h1 h2 h3 h4⟩

end

end Cert.Signals

end
-- ==== Proof.Given.lean ====
/- What the precondition gives: finite signals, a finite Gram matrix, and one greatest score alone at each selection of
   each signal. -/
module

public import proofs.«01_k».proof.Proof.SignalValue

@[expose] public section

set_option maxRecDepth 16384

noncomputable section

namespace Cert.Signals

open Idealize.ShloMosaic Idealize.ShloMosaic.ValueIdx Idealize.ShloMosaic.StableHlo Cert.ReferenceIdeal
  Cert.ReferenceIdeal.Gen Cert.ReferenceIdeal.Value Cert.Pursuit

/-- The precondition of the value claim, in words of the problem. -/
structure Good (z : FVec Ideal S16x64x32x32 .f32) (w : FVec Ideal S64x512 .f32) : Prop where
  signals : ∀ i, ∃ r : ℝ, z i = (r : EReal)
  gram : ∀ p q : Atom, ∃ r : ℝ, pairs (gram w) p q = (r : EReal)
  ties0 : ∀ n, ties (score0 (corr z w)) (at1 n) = 1#32
  ties1 : ∀ n, ties (score1 (corr z w) (Signals.gram w)) (at1 n) = 1#32
  ties2 : ∀ n, ties (score2 (corr z w) (Signals.gram w)) (at1 n) = 1#32
  ties3 : ∀ n, ties (score3 (corr z w) (Signals.gram w)) (at1 n) = 1#32
  ties4 : ∀ n, ties (score4 (corr z w) (Signals.gram w)) (at1 n) = 1#32

/-- The constant the magnitudes are compared with is infinity. -/
theorem highest : Ideal.ofBits .f32 0x7F800000#32 = (⊤ : EReal) := by
  simp [Ideal.ofBits, Ideal.ieee]

/-- A value whose magnitude is below infinity is real. -/
theorem real_of_lt (x : EReal) (h : Ideal.cmp .olt (mag x) (Ideal.ofBits .f32 0x7F800000#32) = 1#1) : ∃ r : ℝ, x = (r : EReal) := by
  rw [highest] at h
  have hlt : mag x < ⊤ := by
    by_contra hn
    rw [Ideal.cmp, decide_eq_false hn] at h
    exact absurd h (by decide)
  induction x using EReal.rec with
  | bot => exact absurd hlt (by simp [mag])
  | coe r => exact ⟨r, rfl⟩
  | top => exact absurd hlt (by simp [mag])

/-- A scalar has one index. -/
instance : Subsingleton S_.Idx := ⟨fun a b => funext fun k => k.elim0⟩

/-- Where the signals are found finite each of them is real. -/
theorem real_signals (z : FVec Ideal S16x64x32x32 .f32) (j : S_.Idx) (h : finiteSignals z j = 1#1) (i : S16x64x32x32.Idx) :
    ∃ r : ℝ, z i = (r : EReal) :=
  real_of_lt _ (Host.reduce_andi_all _ _ _ _ j h i)

/-- Where the Gram matrix is found finite each of its entries is real. -/
theorem real_gram (g : FVec Ideal S512x512 .f32) (j : S_.Idx) (h : finiteGram g j = 1#1) (i : S512x512.Idx) :
    ∃ r : ℝ, g i = (r : EReal) :=
  real_of_lt _ (Host.reduce_andi_all _ _ _ _ j h i)

/-- Where the greatest scores are found unique, each signal's is attained once. -/
theorem ties_of_unique (s : Table) (j : S_.Idx) (h : unique s j = 1#1) (n : Signal) : ties s (at1 n) = 1#32 :=
  StableHlo.Predicate.cmpi_eq_iff.1 (Host.reduce_andi_all _ _ _ _ j h (at1 n))

/-- Two bits of which the conjunction is one are one. -/
theorem andi_one (x y : IVec S_ 1) (j : S_.Idx) (h : andi x y j = 1#1) : x j = 1#1 ∧ y j = 1#1 := by
  have h' : IntOp.andi (x j) (y j) = 1#1 := h
  revert h'
  generalize x j = u
  generalize y j = v
  revert u v
  decide

/-- The precondition, decoded. -/
theorem good_of_generic (V0 : Valuation τ sig (Elt Ideal))
    (h : Cert.Pre_generic.fn (F := Ideal) (V0 (Proc.devRef .tc main_arg0)) (V0 (Proc.devRef .tc main_arg1)) = fun _ => 1#1) :
    Good (V0 (Proc.devRef .tc main_arg0)) (V0 (Proc.devRef .tc main_arg1)) := by
  rw [generic_eq, gram_eq, score0_eq, score1_eq, score2_eq, score3_eq, score4_eq] at h
  unfold B M at h
  rw [corr_eq, gram_eq] at h
  have j : S_.Idx := fun k => k.elim0
  obtain ⟨h, h4⟩ := andi_one _ _ j (congrFun h j)
  obtain ⟨h, h3⟩ := andi_one _ _ j h
  obtain ⟨h, h2⟩ := andi_one _ _ j h
  obtain ⟨h, h1⟩ := andi_one _ _ j h
  obtain ⟨h, h0⟩ := andi_one _ _ j h
  obtain ⟨hz, hg⟩ := andi_one _ _ j h
  exact ⟨real_signals _ j hz, fun p q => real_gram _ j hg _, ties_of_unique _ j h0, ties_of_unique _ j h1,
    ties_of_unique _ j h2, ties_of_unique _ j h3, ties_of_unique _ j h4⟩

end Cert.Signals

end
-- ==== Proof.Codes.lean ====
/- The kernel's coefficients are the reference's, and so are the reconstructions: each signal's coefficients come from the
   pursuit on the same correlations with the same Gram matrix, which is symmetric. -/
module

public import proofs.«01_k».proof.Proof.Arrays
public import proofs.«01_k».proof.Proof.BlockProducts
public import proofs.«01_k».proof.Proof.Given
public import Idealize.ShloMosaic.Lib.StackMember

@[expose] public section

set_option maxRecDepth 16384

noncomputable section

namespace Cert.Meet

open Idealize.ShloMosaic Idealize.ShloMosaic.ValueIdx Cert.ReferenceIdeal Cert.ReferenceIdeal.Gen Cert.Pursuit Cert.Arrays
  Cert.Block
open Cert.Signals (Signal at1 at2 corrOf pairs Good)
open scoped BigOperators

variable (z : FVec Ideal S16x64x32x32 .f32) (w : FVec Ideal S64x512 .f32)

/-- The block of signals `t`. -/
abbrev blk (t : ℕ) (ht : t < 8) : FVec Ideal ⟨2, ![64, 2048]⟩ .f32 := blockOf (Signals.signals z) t ht

/-- The signal at column `j` of block `t`. -/
def signalAt (t : ℕ) (ht : t < 8) (j : Lane) : Signal := ⟨2048 * t + j.val, by have := j.isLt; omega⟩

/-- A block of the signals read at a place. -/
theorem blk_apply (t : ℕ) (ht : t < 8) (c : Channel) (j : Lane) :
    blk z t ht (ix2 c j) = Signals.signals z (ix2 c (signalAt t ht j)) := rfl

/-- The dictionary's transpose, entry by entry. -/
theorem dictionaryT_apply (a : Atom) (c : Channel) : Signals.dictionaryT w (ix2 a c) = Signals.dictionary w (ix2 c a) := by
  unfold Signals.dictionaryT transpose
  refine congrArg _ (funext fun k => Fin.ext ?_)
  match k with
  | ⟨0, _⟩ => rfl
  | ⟨1, _⟩ => rfl

/-- The reference's Gram matrix, entry by entry. -/
theorem pairs_apply (p a : Atom) : pairs (Signals.gram w) p a
    = ∑ c : Channel, Signals.dictionaryT w (ix2 p c) * Signals.dictionary w (ix2 c a) :=
  StackMember.dotGeneral_plain_apply Option.none (Signals.dictionaryT w) (Signals.dictionary w) p a

/-- It is symmetric. -/
theorem pairs_comm (p a : Atom) : pairs (Signals.gram w) p a = pairs (Signals.gram w) a p := by
  rw [pairs_apply, pairs_apply]
  refine Finset.sum_congr rfl fun c _ => ?_
  rw [dictionaryT_apply, dictionaryT_apply, mul_comm]

/-- The reference's correlations, entry by entry. -/
theorem corr_apply (n : Signal) (a : Atom) : Signals.corr z w (at2 n a)
    = ∑ c : Channel, Signals.dictionaryT w (ix2 a c) * Signals.signals z (ix2 c n) := by
  refine Eq.trans ?_ (StackMember.dotGeneral_plain_apply Option.none (Signals.dictionaryT w) (Signals.signals z) a n)
  unfold Signals.corr transpose
  refine congrArg _ (funext fun k => Fin.ext ?_)
  match k with
  | ⟨0, _⟩ => rfl
  | ⟨1, _⟩ => rfl

/-- The reference's coefficients, one signal to a column. -/
theorem codes_apply (a : Atom) (n : Signal) : Signals.codes z w (ix2 a n)
    = Signals.coefficients (Signals.corr z w) (Signals.gram w) (at2 n a) := by
  unfold Signals.codes transpose
  refine congrArg _ (funext fun k => Fin.ext ?_)
  match k with
  | ⟨0, _⟩ => rfl
  | ⟨1, _⟩ => rfl

/-- A block's correlations are the reference's of its signals. -/
theorem correlations (t : ℕ) (ht : t < 8) (a : Atom) (j : Lane) :
    KernelIdeal.Gen.k0_pay9 (F := Ideal) (blk z t ht) (Signals.dictionaryT w) (cell a j) = corrOf (Signals.corr z w) (signalAt t ht j) a := by
  refine (correlation_apply _ _ a j).trans (Eq.trans ?_ (corr_apply z w (signalAt t ht j) a).symm)
  exact Finset.sum_congr rfl fun c _ => congrArg (Signals.dictionaryT w (ix2 a c) * ·) (blk_apply z t ht c j)

/-- The kernel's Gram matrix is the reference's. -/
theorem grams (a p : Atom) : KernelIdeal.Gen.k0_pay8 (F := Ideal) (Signals.dictionary w) (Signals.dictionaryT w) (ix2 a p)
    = pairs (Signals.gram w) p a := by
  rw [gram_apply, pairs_comm]
  exact (pairs_apply w a p).symm

/-- A block's coefficients are the reference's of its signals. -/
theorem coefficients_eq (h : Good z w) (t : ℕ) (ht : t < 8) (a : Atom) (j : Lane) :
    coefficientsOf (blk z t ht) (Signals.dictionary w) (Signals.dictionaryT w) (cell a j)
      = Signals.codes z w (ix2 a (signalAt t ht j)) := by
  obtain ⟨p0, p1, p2, p3, p4, hg, hc⟩ := Signals.exists_greedy (Signals.corr z w) (Signals.gram w) (signalAt t ht j)
    (h.ties0 _) (h.ties1 _) (h.ties2 _) (h.ties3 _) (h.ties4 _)
  rw [codes_apply, hc]
  obtain ⟨e1, e2, e3⟩ := parts (Signals.dictionary w) (Signals.dictionaryT w) fun a p => by
    rw [grams]; exact h.gram p a
  have hb : (fun a => KernelIdeal.Gen.k0_pay9 (F := Ideal) (blk z t ht) (Signals.dictionaryT w) (cell a j))
      = corrOf (Signals.corr z w) (signalAt t ht j) := funext fun a => correlations z w t ht a j
  have hd : Data (KernelIdeal.Gen.k0_pay9 (F := Ideal) (blk z t ht) (Signals.dictionaryT w))
      (KernelIdeal.Gen.k0_pay13 (Signals.dictionary w) (Signals.dictionaryT w))
      (KernelIdeal.Gen.k0_pay14 (Signals.dictionary w) (Signals.dictionaryT w))
      (KernelIdeal.Gen.k0_pay12 (Signals.dictionary w) (Signals.dictionaryT w)) j (pairs (Signals.gram w)) p0 p1 p2 p3 p4 :=
    ⟨fun a p => (e1 _).trans (grams w a p), e2, e3, by rw [hb]; exact hg⟩
  exact (hd.coefficients a).trans (by rw [hb])

/-- Every column lies in a block. -/
theorem exists_signalAt (n : Signal) : ∃ (t : ℕ) (ht : t < 8) (j : Lane), n = signalAt t ht j :=
  ⟨n.val / 2048, by have := n.isLt; omega, ⟨n.val % 2048, Nat.mod_lt _ (by norm_num)⟩,
    Fin.ext (by show n.val = 2048 * (n.val / 2048) + n.val % 2048; omega)⟩

/-- The third result: the kernel's coefficients are the reference's. -/
theorem coefficientArray_eq (h : Good z w) :
    coefficientArray (Signals.signals z) (Signals.dictionary w) (Signals.dictionaryT w) = Signals.codes z w := by
  funext i
  obtain ⟨a, n, rfl⟩ : ∃ (a : Atom) (n : Signal), i = ix2 a n := ⟨i 0, i 1, eq_ix2 i⟩
  obtain ⟨t, ht, j, rfl⟩ := exists_signalAt n
  rw [← coefficients_eq z w h t ht a j]
  exact assemble_apply (r := 512) (fun t ht => coefficientsOf (blk z t ht) (Signals.dictionary w) (Signals.dictionaryT w)) _ t ht
    (cell a j) rfl rfl

/-- The reference's product of the dictionary and the coefficients. -/
abbrev product : FVec Ideal S64x16384 .f32 :=
  Host.dotGeneral dot_S64x512_S512x16384_S64x16384_1_0_0_1_n_n Option.none (Signals.dictionary w) (Signals.codes z w)

/-- The reference's product of dictionary and codes, read at a place. -/
theorem product_eq (c : Channel) (n : Signal) :
    product z w (ix2 c n) = ∑ a : Atom, Signals.dictionary w (ix2 c a) * Signals.codes z w (ix2 a n) :=
  StackMember.dotGeneral_plain_apply Option.none (Signals.dictionary w) (Signals.codes z w) c n

/-- A block's reconstruction is the reference's of its signals. -/
theorem rebuilt_eq (h : Good z w) (t : ℕ) (ht : t < 8) (c : Channel) (j : Lane) :
    rebuiltOf (blk z t ht) (Signals.dictionary w) (Signals.dictionaryT w) (ix2 c j) = product z w (ix2 c (signalAt t ht j)) := by
  rw [rebuilt_apply, product_eq]
  exact Finset.sum_congr rfl fun a _ => by rw [coefficients_eq z w h]

/-- The kernel's reconstruction is the reference's. -/
theorem rebuiltArray_eq (h : Good z w) :
    rebuiltArray (Signals.signals z) (Signals.dictionary w) (Signals.dictionaryT w) = product z w := by
  funext i
  obtain ⟨c, n, rfl⟩ : ∃ (c : Channel) (n : Signal), i = ix2 c n := ⟨i 0, i 1, eq_ix2 i⟩
  obtain ⟨t, ht, j, rfl⟩ := exists_signalAt n
  rw [← rebuilt_eq z w h t ht c j]
  exact assemble_apply (r := 64) (fun t ht => rebuiltOf (blk z t ht) (Signals.dictionary w) (Signals.dictionaryT w)) _ t ht
    (ix2 c j) rfl rfl

end Cert.Meet

end
-- ==== Proof.Results.lean ====
/- The kernel's first two results are the reference's: the reconstruction in the argument's layout, since a finite signal
   and its error add up to the reconstruction, and the loss, since the squared errors added up block after block are those
   added up at once, and five quarters of the mean are a quarter of it and the mean. -/
module

public import proofs.«01_k».proof.Proof.Codes
public import Idealize.ShloMosaic.Lib.IdealHost

@[expose] public section

set_option maxRecDepth 16384

noncomputable section

namespace Cert.Meet

open Idealize.ShloMosaic Idealize.ShloMosaic.ValueIdx Cert.ReferenceIdeal Cert.ReferenceIdeal.Gen Cert.Pursuit Cert.Arrays
  Cert.Block
open Cert.Signals (Signal at1 at2 corrOf pairs Good)
open scoped BigOperators

/-- A finite value and another's difference from it add up to the other. -/
theorem add_sub_real (r : ℝ) (x : EReal) : (r : EReal) + (x - r) = x := by
  induction x using EReal.rec with
  | bot => rfl
  | coe y => rw [← EReal.coe_sub, ← EReal.coe_add]; exact congrArg _ (by ring)
  | top => rfl

variable (z : FVec Ideal S16x64x32x32 .f32) (w : FVec Ideal S64x512 .f32)

/-! ### The first result -/

/-- A finite argument is finite with its channels moved last. -/
theorem channelsLast_real (h : Good z w) (i : S16x32x32x64.Idx) : ∃ r : ℝ, Signals.channelsLast z i = (r : EReal) :=
  h.signals _

/-- The signals and their errors add up to the reconstruction. -/
theorem straight (h : Good z w) : addf (Signals.channelsLast z) (Signals.errors z w) = Signals.rebuilt z w := by
  funext i
  obtain ⟨r, hr⟩ := channelsLast_real z w h i
  have e : addf (Signals.channelsLast z) (Signals.errors z w) i
      = Signals.channelsLast z i + (Signals.rebuilt z w i - Signals.channelsLast z i) := rfl
  rw [e, hr]
  exact add_sub_real r _

/-- The kernel's first result is the reference's: the reconstruction in the argument's layout. -/
theorem output_eq (h : Good z w) :
    output (Signals.signals z) (Signals.dictionary w) (Signals.dictionaryT w) = Signals.straightThrough z w := by
  rw [Signals.straightThrough, straight z w h, output, rebuiltArray_eq z w h]
  rfl

/-! ### The second result -/

/-- The squared error of a channel of a signal. -/
def square (c : Channel) (n : Signal) : EReal :=
  (product z w (ix2 c n) - Signals.signals z (ix2 c n)) * (product z w (ix2 c n) - Signals.signals z (ix2 c n))

/-- The squared errors of one block. -/
theorem block_squares (h : Good z w) (t : ℕ) (ht : t < 8) :
    squaresOf (blk z t ht) (Signals.dictionary w) (Signals.dictionaryT w) (ix2 (0 : Fin 1) (0 : Fin 1))
      = ∑ c : Channel, ∑ j : Lane, square z w c (signalAt t ht j) := by
  rw [squares_apply]
  refine Finset.sum_congr rfl fun c _ => Finset.sum_congr rfl fun j _ => ?_
  rw [errors_apply, rebuilt_eq z w h]
  rfl

/-- The squared errors of the first blocks. -/
theorem squaresUpTo_eq (h : Good z w) : ∀ (n : ℕ) (hn : n < 8),
    squaresUpTo (Signals.signals z) (Signals.dictionary w) (Signals.dictionaryT w) n hn (ix2 (0 : Fin 1) (0 : Fin 1))
      = ∑ t : Fin (n + 1), ∑ c : Channel, ∑ j : Lane, square z w c (signalAt t.val (by have := t.isLt; omega) j)
  | 0, hn => by
    have e : squaresUpTo (Signals.signals z) (Signals.dictionary w) (Signals.dictionaryT w) 0 hn (ix2 (0 : Fin 1) (0 : Fin 1))
      = Ideal.ofBits .f32 0x00000000#32 + squaresOf (blk z 0 hn) (Signals.dictionary w) (Signals.dictionaryT w)
        (ix2 (0 : Fin 1) (0 : Fin 1)) := rfl
    rw [e, Ideal.ofBits_zero_f32, zero_add, block_squares z w h]
    exact (Fin.sum_univ_one (fun t : Fin 1 => ∑ c : Channel, ∑ j : Lane,
      square z w c (signalAt t.val (by have := t.isLt; omega) j))).symm
  | n + 1, hn => by
    have e : squaresUpTo (Signals.signals z) (Signals.dictionary w) (Signals.dictionaryT w) (n + 1) hn
        (ix2 (0 : Fin 1) (0 : Fin 1))
      = squaresUpTo (Signals.signals z) (Signals.dictionary w) (Signals.dictionaryT w) n (Nat.lt_of_succ_lt hn)
          (ix2 (0 : Fin 1) (0 : Fin 1))
        + squaresOf (blk z (n + 1) hn) (Signals.dictionary w) (Signals.dictionaryT w) (ix2 (0 : Fin 1) (0 : Fin 1)) := rfl
    rw [e, squaresUpTo_eq h n, block_squares z w h, Fin.sum_univ_castSucc (n := n + 1)]
    rfl

/-- A sum over the signals, block by block. -/
theorem sum_signals (f : Signal → EReal) : ∑ n, f n = ∑ t : Fin 8, ∑ j : Lane, f (signalAt t.val t.isLt j) := by
  rw [← Fintype.sum_prod_type' (f := fun (t : Fin 8) (j : Lane) => f (signalAt t.val t.isLt j)),
    ← Equiv.sum_comp (finProdFinEquiv (m := 8) (n := 2048)) f]
  refine Finset.sum_congr rfl fun p _ => congrArg f (Fin.ext ?_)
  show p.2.val + 2048 * p.1.val = 2048 * p.1.val + p.2.val
  omega

/-- The kernel's squared errors are all the squared errors. -/
theorem squares_eq (h : Good z w) :
    squares (Signals.signals z) (Signals.dictionary w) (Signals.dictionaryT w) (ix2 (0 : Fin 1) (0 : Fin 1))
      = ∑ c : Channel, ∑ n : Signal, square z w c n := by
  refine (squaresUpTo_eq z w h 7 (by norm_num)).trans ?_
  rw [Finset.sum_comm]
  exact Finset.sum_congr rfl fun c _ => (sum_signals fun n => square z w c n).symm

/-- The reference's error at a place is the error of the channel and signal that come there. -/
theorem errors_reshape (i : S16x32x32x64.Idx) : Signals.errors z w i
    = product z w (Shape.reshapeEquiv shapeCasts_S64x16384_S16x32x32x64 i)
      - Signals.signals z (Shape.reshapeEquiv shapeCasts_S64x16384_S16x32x32x64 i) := by
  have e : shapeCast S16x32x32x64 (Signals.signals z) shapeCasts_S64x16384_S16x32x32x64 = Signals.channelsLast z :=
    shapeCast_shapeCast _ _ _
  unfold Signals.errors
  rw [← e]
  rfl

/-- The reference's squared errors are all the squared errors. -/
theorem sum_errors : ∑ i, Signals.errors z w i * Signals.errors z w i = ∑ c : Channel, ∑ n : Signal, square z w c n := by
  refine Eq.trans ?_ (sum_idx2 (fun i : S64x16384.Idx =>
    (product z w i - Signals.signals z i) * (product z w i - Signals.signals z i)))
  rw [← Equiv.sum_comp (Shape.reshapeEquiv shapeCasts_S64x16384_S16x32x32x64)]
  exact Finset.sum_congr rfl fun i _ => by rw [errors_reshape]

/-- The constant a quarter. -/
theorem quarter : Ideal.ofBits .f32 0x3E800000#32 = ((1 / 4 : ℝ) : EReal) := by
  simp [Ideal.ofBits, Ideal.ieee, -EReal.coe_mul]; norm_num

/-- The constant five quarters. -/
theorem fiveQuarters : Ideal.ofBits .f32 0x3FA00000#32 = ((5 / 4 : ℝ) : EReal) := by
  simp [Ideal.ofBits, Ideal.ieee, -EReal.coe_mul]; norm_num

/-- The number of values is not zero. -/
theorem count_ne : Ideal.ofBits .f32 0x49800000#32 ≠ 0 := by
  have : Ideal.ofBits .f32 0x49800000#32 = ((1048576 : ℝ) : EReal) := by
    simp [Ideal.ofBits, Ideal.ieee, -EReal.coe_mul]; norm_num
  rw [this]
  exact_mod_cast (by norm_num : (1048576 : ℝ) ≠ 0)

/-- Five quarters of a quotient are a quarter of it and the whole. -/
theorem weights (x y : EReal) (hy : y ≠ 0) : Ideal.div (((5 / 4 : ℝ) : EReal) * x) y
    = ((1 / 4 : ℝ) : EReal) * Ideal.div x y + Ideal.div x y := by
  rw [Ideal.div, Ideal.div, if_neg hy, if_neg hy, mul_assoc]
  have e : ((5 / 4 : ℝ) : EReal) = ((1 / 4 : ℝ) : EReal) + 1 := by
    rw [show (1 : EReal) = ((1 : ℝ) : EReal) from rfl, ← EReal.coe_add]; exact congrArg _ (by norm_num)
  rw [e, EReal.right_distrib_of_nonneg (by exact_mod_cast (by norm_num : (0 : ℝ) ≤ 1 / 4)) zero_le_one, one_mul]

/-- The kernel's second result is the reference's: the loss. -/
theorem loss_eq (h : Good z w) :
    lossOf (Signals.signals z) (Signals.dictionary w) (Signals.dictionaryT w) = Signals.loss z w := by
  funext j
  have e1 : Signals.meanSquare z w j
      = Ideal.div (∑ c : Channel, ∑ n : Signal, square z w c n) (Ideal.ofBits .f32 0x49800000#32) := by
    have e : Host.reduceAdd (mulf (Signals.errors z w) (Signals.errors z w)) (constant (F := Ideal) S_ .f32 0x00000000#32)
        reducesTo_S16x32x32x64_S_d0_1_2_3 h_S_ j = ∑ i, Signals.errors z w i * Signals.errors z w i := by
      rw [hostReduceAdd_apply, Ideal.hostReduceAdd_total _ (fun b => b.elim0)]
      have z0 : constant (F := Ideal) S_ .f32 0x00000000#32 (Shape.Idx.first h_S_) = 0 := Ideal.ofBits_zero_f32
      rw [z0, zero_add]
      rfl
    rw [← sum_errors, ← e]
    rfl
  have e2 : lossOf (Signals.signals z) (Signals.dictionary w) (Signals.dictionaryT w) j
      = Ideal.div (Ideal.ofBits .f32 0x3FA00000#32 * ∑ c : Channel, ∑ n : Signal, square z w c n)
        (Ideal.ofBits .f32 0x49800000#32) := by
    rw [← squares_eq z w h, ← shapeCast_apply (squares (Signals.signals z) (Signals.dictionary w) (Signals.dictionaryT w))
      KernelIdeal.Gen.shapeCasts_S1x1_S_ j (ix2 (0 : Fin 1) (0 : Fin 1)) (by rfl)]
    rfl
  have e3 : Signals.loss z w j
      = Ideal.ofBits .f32 0x3E800000#32 * Signals.meanSquare z w j + Signals.meanSquare z w j := rfl
  rw [e2, e3, e1, quarter, fiveQuarters]
  exact weights _ _ count_ne

end Cert.Meet

end
-- ==== Proof.lean ====
module

public import proofs.«01_k».proof.Defs
public import proofs.«01_k».proof.Proof.Frames
public import proofs.«01_k».proof.Proof.Results
public import Idealize.ShloMosaic.Adequacy
public import Idealize.ShloMosaic.Init

@[expose] public section

noncomputable section

namespace Cert.Proof

open Idealize.ShloMosaic Idealize.SL.Sem

/-- The idealized kernel and the idealized reference end with the same reconstruction, the same loss and the same sparse
    codes, of arguments for which the precondition holds. -/
theorem algebraic : Cert.algebraic_KernelIdeal_ReferenceIdeal := by
  intro m g m' g' hpre hargs
  have hz : ∀ c : Dev Cert.ReferenceIdeal.nD,
      Cert.Signals.Good (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) := fun c => by
    have hp := hpre c
    rw [← (hargs c).1, ← (hargs c).2] at hp
    exact Cert.Signals.good_of_generic (StableHlo.launchContents m' c) hp
  refine ⟨fun c => Cert.Signals.straightThrough
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)),
    fun c => Cert.Signals.loss
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)),
    fun c => Cert.Signals.codes
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)),
    ?_, Cert.Signals.run m' g'⟩
  refine (θ_run Cert.KernelIdeal.defs _ _).mono (fun r h c => ?_) (Cert.Arrays.run m g)
  obtain ⟨h0, h1, h2, ha, hb⟩ := h c
  rw [Cert.Arrays.signals_eq, Cert.Arrays.dictionary_eq, Cert.Arrays.dictionaryT_eq, ← (hargs c).1, ← (hargs c).2]
    at h0 h1 h2
  exact ⟨h0.trans (Cert.Meet.output_eq _ _ (hz c)), h1.trans (Cert.Meet.loss_eq _ _ (hz c)),
    h2.trans (Cert.Meet.coefficientArray_eq _ _ (hz c)), ha, hb⟩

/-- All that is claimed. -/
theorem claim : Cert.Claim :=
  ⟨Cert.Kernel.Gen.facts, Cert.KernelIdeal.Gen.facts, Cert.ReferenceIdeal.Gen.facts, Cert.Pre_generic.Gen.facts,
    frame_kernel, frame_kernel_generic, frame_kernelIdeal, frame_referenceIdeal, frame_referenceIdeal_generic, preserves,
    algebraic⟩

end Cert.Proof

end
